-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_window_KernelIdeal [hPre_within_window_KernelIdeal : Cert.Pre_within_window_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_window_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_window_ReferenceIdeal [hPre_within_window_ReferenceIdeal : Cert.Pre_within_window_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_window_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_within_window_KernelIdeal [hKernelIdeal : Cert.KernelIdeal.Facts] [hPre_within_window_KernelIdeal : Cert.Pre_within_window_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_window_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_within_window_ReferenceIdeal [hReferenceIdeal : Cert.ReferenceIdeal.Facts] [hPre_within_window_ReferenceIdeal : Cert.Pre_within_window_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_window_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_within_window_KernelIdeal [hKernelIdeal : Cert.KernelIdeal.Facts] [hReferenceIdeal : Cert.ReferenceIdeal.Facts] [hPre_within_window_KernelIdeal : Cert.Pre_within_window_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_window_KernelIdeal m →
    (∀ c : Dev Cert.KernelIdeal.nD,
      m ((c.tc : Thread Cert.KernelIdeal.nD Cert.KernelIdeal.τ).loc Cert.KernelIdeal.main_arg0) = Layout.block ⟨4, ![2, 16, 512, 960]⟩ ⟨4, ![4, 16, 512, 960]⟩ 0 2 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 2, 512, 960]⟩ ⟨4, ![4, 2, 512, 960]⟩ 0 2 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 1, 512, 960]⟩ ⟨4, ![4, 1, 512, 960]⟩ 0 2 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨4, ![2, 16, 512, 960]⟩ ⟨4, ![4, 16, 512, 960]⟩ 0 2 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v172) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_within_window_KernelIdeal : Cert.Pre_within_window_KernelIdeal.Facts) (hPre_within_window_ReferenceIdeal : Cert.Pre_within_window_ReferenceIdeal.Facts),
    quiescent_Kernel (hKernel := hKernel)
    ∧ quiescent_KernelIdeal (hKernelIdeal := hKernelIdeal)
    ∧ quiescent_KernelIdeal_pre_within_window_KernelIdeal (hKernelIdeal := hKernelIdeal) (hPre_within_window_KernelIdeal := hPre_within_window_KernelIdeal)
    ∧ quiescent_ReferenceIdeal (hReferenceIdeal := hReferenceIdeal)
    ∧ quiescent_ReferenceIdeal_pre_within_window_ReferenceIdeal (hReferenceIdeal := hReferenceIdeal) (hPre_within_window_ReferenceIdeal := hPre_within_window_ReferenceIdeal)
    ∧ preserves_Kernel_KernelIdeal
    ∧ algebraic_KernelIdeal_ReferenceIdeal_pre_within_window_KernelIdeal (hKernelIdeal := hKernelIdeal) (hReferenceIdeal := hReferenceIdeal) (hPre_within_window_KernelIdeal := hPre_within_window_KernelIdeal)
-- ==== Pre_within_window_KernelIdeal.lean ====
abbrev S2x16x512x960 : Shape := ⟨4, ![2, 16, 512, 960]⟩
abbrev S2x2x512x960 : Shape := ⟨4, ![2, 2, 512, 960]⟩
abbrev S2x1x512x960 : Shape := ⟨4, ![2, 1, 512, 960]⟩
abbrev S_ : Shape := ⟨0, ![]⟩

class Facts : Prop where
  bcast_S_S2x2x512x960 : S_.BroadcastsInDim S2x2x512x960 (![] : Fin 0 → Fin S2x2x512x960.rank)

variable [Facts]

def fn {F : FTy → Type} [FloatOps F] (main_arg0 : FVec F S2x16x512x960 .f32) (main_arg1 : FVec F S2x2x512x960 .f32) (main_arg2 : FVec F S2x1x512x960 .f32) : IVec S2x2x512x960 1 :=
  let main_v0 : FVec F S2x2x512x960 .f32 := Host.absf main_arg1
  let main_cst : FVec F S_ .f32 := constant S_ .f32 0x42800000#32
  let main_v1 : FVec F S2x2x512x960 .f32 := broadcastInDim S2x2x512x960 ![] bcast_S_S2x2x512x960 main_cst
  let main_v2 : IVec S2x2x512x960 1 := cmpf .ole main_v0 main_v1
  main_v2
-- ==== Pre_within_window_ReferenceIdeal.lean ====
abbrev S4x16x512x960 : Shape := ⟨4, ![4, 16, 512, 960]⟩
abbrev S4x2x512x960 : Shape := ⟨4, ![4, 2, 512, 960]⟩
abbrev S4x1x512x960 : Shape := ⟨4, ![4, 1, 512, 960]⟩
abbrev S_ : Shape := ⟨0, ![]⟩

class Facts : Prop where
  bcast_S_S4x2x512x960 : S_.BroadcastsInDim S4x2x512x960 (![] : Fin 0 → Fin S4x2x512x960.rank)

variable [Facts]

def fn {F : FTy → Type} [FloatOps F] (main_arg0 : FVec F S4x16x512x960 .f32) (main_arg1 : FVec F S4x2x512x960 .f32) (main_arg2 : FVec F S4x1x512x960 .f32) : IVec S4x2x512x960 1 :=
  let main_v0 : FVec F S4x2x512x960 .f32 := Host.absf main_arg1
  let main_cst : FVec F S_ .f32 := constant S_ .f32 0x42800000#32
  let main_v1 : FVec F S4x2x512x960 .f32 := broadcastInDim S4x2x512x960 ![] bcast_S_S4x2x512x960 main_cst
  let main_v2 : IVec S4x2x512x960 1 := cmpf .ole main_v0 main_v1
  main_v2
-- ==== Kernel.lean ====
abbrev S2x16x512x960 : Shape := ⟨4, ![2, 16, 512, 960]⟩
abbrev S2x2x512x960 : Shape := ⟨4, ![2, 2, 512, 960]⟩
abbrev S2x1x512x960 : Shape := ⟨4, ![2, 1, 512, 960]⟩
abbrev S_ : Shape := ⟨0, ![]⟩
abbrev S2x16x512x1152 : Shape := ⟨4, ![2, 16, 512, 1152]⟩
abbrev S2x2x512x1152 : Shape := ⟨4, ![2, 2, 512, 1152]⟩
abbrev S2x1x512x1152 : Shape := ⟨4, ![2, 1, 512, 1152]⟩
abbrev S1x16x128x128 : Shape := ⟨4, ![1, 16, 128, 128]⟩
abbrev S16x256x256 : Shape := ⟨3, ![16, 256, 256]⟩
abbrev S2x256x256 : Shape := ⟨3, ![2, 256, 256]⟩
abbrev S1x256x256 : Shape := ⟨3, ![1, 256, 256]⟩
abbrev S2176x128 : Shape := ⟨2, ![2176, 128]⟩
abbrev S3 : Shape := ⟨1, ![3]⟩
abbrev S1 : Shape := ⟨1, ![1]⟩
abbrev S1x16x256x256 : Shape := ⟨4, ![1, 16, 256, 256]⟩
abbrev S1x2x256x256 : Shape := ⟨4, ![1, 2, 256, 256]⟩
abbrev S1x1x256x256 : Shape := ⟨4, ![1, 1, 256, 256]⟩
abbrev S128x256 : Shape := ⟨2, ![128, 256]⟩
abbrev S1x256 : Shape := ⟨2, ![1, 256]⟩
abbrev S1x1x256 : Shape := ⟨3, ![1, 1, 256]⟩
abbrev S16x1x256 : Shape := ⟨3, ![16, 1, 256]⟩
abbrev S16x256 : Shape := ⟨2, ![16, 256]⟩
abbrev S17x256 : Shape := ⟨2, ![17, 256]⟩
abbrev S17x1x256 : Shape := ⟨3, ![17, 1, 256]⟩
abbrev S1x128x256 : Shape := ⟨3, ![1, 128, 256]⟩
abbrev S17x128x256 : Shape := ⟨3, ![17, 128, 256]⟩
abbrev S2176x256 : Shape := ⟨2, ![2176, 256]⟩
abbrev S17x128x128 : Shape := ⟨3, ![17, 128, 128]⟩
abbrev S16x128x128 : Shape := ⟨3, ![16, 128, 128]⟩
abbrev S1x128x128 : Shape := ⟨3, ![1, 128, 128]⟩

abbrev nBuf : Space → Nat
  | .hbm => 13
  | .vmem => 6
  | .smem => 0
  | _ => 0

abbrev bufTy : (tb : Table) → Fin (tcTables nBuf tb) → BufTy
  | .hbm, ⟨0, _⟩ => ⟨S2x16x512x960, .f32⟩
  | .hbm, ⟨1, _⟩ => ⟨S2x2x512x960, .f32⟩
  | .hbm, ⟨2, _⟩ => ⟨S2x1x512x960, .f32⟩
  | .hbm, ⟨3, _⟩ => ⟨S_, .i32⟩
  | .hbm, ⟨4, _⟩ => ⟨S_, .f32⟩
  | .hbm, ⟨5, _⟩ => ⟨S2x16x512x1152, .f32⟩
  | .hbm, ⟨6, _⟩ => ⟨S_, .i32⟩
  | .hbm, ⟨7, _⟩ => ⟨S_, .f32⟩
  | .hbm, ⟨8, _⟩ => ⟨S2x2x512x1152, .f32⟩
  | .hbm, ⟨9, _⟩ => ⟨S_, .f32⟩
  | .hbm, ⟨10, _⟩ => ⟨S_, .f32⟩
  | .hbm, ⟨11, _⟩ => ⟨S2x1x512x1152, .f32⟩
  | .hbm, ⟨12, _⟩ => ⟨S2x16x512x960, .f32⟩
  | .local _ .vmem, ⟨0, _⟩ => ⟨S1x16x128x128, .f32⟩
  | .local _ .vmem, ⟨1, _⟩ => ⟨S1x16x128x128, .f32⟩
  | .local _ .vmem, ⟨2, _⟩ => ⟨S16x256x256, .f32⟩
  | .local _ .vmem, ⟨3, _⟩ => ⟨S2x256x256, .f32⟩
  | .local _ .vmem, ⟨4, _⟩ => ⟨S1x256x256, .f32⟩
  | .local _ .vmem, ⟨5, _⟩ => ⟨S2176x128, .f32⟩
  | _, _ => ⟨S2x16x512x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_cst : Ref sig .tc := ⟨.hbm, 9, rfl⟩
abbrev main_call2_v0 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem0_1 : DmaSem sig := 1

abbrev nD : Nat := 2
abbrev τ : Topo := Topo.v7x

variable {F : FTy → Type} [FloatOps F]

abbrev grid0 : Pipeline.Grid := ⟨3, ![2, 4, 8], ![false, false, false]⟩

def k0_mult1 (i : grid0.Coords) : BitVec 32 :=
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v2 : BitVec 32 := Scalar.subi v0 c64_i32
  let v3 : BitVec 32 := Scalar.maxsi c0_i32 v2
  let v4 : BitVec 32 := Scalar.minsi c256_i32 v3
  v4
def k0_mult2 (i : grid0.Coords) : BitVec 32 :=
  let arg2 : BitVec 32 := BitVec.ofNat 32 (i 2).val
  let c128_i32_0 : BitVec 32 := 128#32
  let v1 : BitVec 32 := Scalar.muli arg2 c128_i32_0
  v1
def k0_off1 (i : grid0.Coords) : Fin 4 → Nat :=
  let arg0 : BitVec 32 := BitVec.ofNat 32 (i 0).val
  let c0_i32_2 : BitVec 32 := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v2 : BitVec 32 := Scalar.subi v0 c64_i32
  let v3 : BitVec 32 := Scalar.maxsi c0_i32 v2
  let v4 : BitVec 32 := Scalar.minsi c256_i32 v3
  let v5 : BitVec 32 := v4
  let arg2 : BitVec 32 := BitVec.ofNat 32 (i 2).val
  let c128_i32_0 : BitVec 32 := 128#32
  let v1 : BitVec 32 := Scalar.muli arg2 c128_i32_0
  let v6 : BitVec 32 := v1
  ![arg0.toNat, 0, v5.toNat, v6.toNat]
def k0_off2 (i : grid0.Coords) : Fin 4 → Nat :=
  let arg0 : BitVec 32 := BitVec.ofNat 32 (i 0).val
  let c0_i32_3 : BitVec 32 := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v2 : BitVec 32 := Scalar.subi v0 c64_i32
  let v3 : BitVec 32 := Scalar.maxsi c0_i32 v2
  let v4 : BitVec 32 := Scalar.minsi c256_i32 v3
  let v5 : BitVec 32 := v4
  let arg2 : BitVec 32 := BitVec.ofNat 32 (i 2).val
  let c128_i32_0 : BitVec 32 := 128#32
  let v1 : BitVec 32 := Scalar.muli arg2 c128_i32_0
  let v6 : BitVec 32 := v1
  ![arg0.toNat, 0, v5.toNat, v6.toNat]
def k0_off3 (i : grid0.Coords) : Fin 4 → Nat :=
  let arg0 : BitVec 32 := BitVec.ofNat 32 (i 0).val
  let c0_i32_4 : BitVec 32 := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v2 : BitVec 32 := Scalar.subi v0 c64_i32
  let v3 : BitVec 32 := Scalar.maxsi c0_i32 v2
  let v4 : BitVec 32 := Scalar.minsi c256_i32 v3
  let v5 : BitVec 32 := v4
  let arg2 : BitVec 32 := BitVec.ofNat 32 (i 2).val
  let c128_i32_0 : BitVec 32 := 128#32
  let v1 : BitVec 32 := Scalar.muli arg2 c128_i32_0
  let v6 : BitVec 32 := v1
  ![arg0.toNat, 0, v5.toNat, v6.toNat]
@[reducible] def k0_t1_loop : Scf.Loop 32 :=
  let c0_i32_13 : BitVec 32 := 0#32
  let c256_i32_14 : BitVec 32 := 256#32
  let v52 : BitVec 32 := Scalar.addi c0_i32_13 c256_i32_14
  let c1_i32_15 : BitVec 32 := 1#32
  ⟨c0_i32_13, v52, c1_i32_15⟩
def k0_off4 (k0_t1 : Fin k0_t1_loop.trips) : Fin 3 → Nat :=
  let c0_24 : Index := 0#32
  let c0_i32_13 : BitVec 32 := 0#32
  let c1_i32_15 : BitVec 32 := 1#32
  let arg12 : BitVec 32 := Scf.iv c0_i32_13 c1_i32_15 k0_t1
  let v64 : Index := Scalar.indexCast arg12
  let c0_25 : Index := 0#32
  ![0, v64.toNat, 0]
def k0_off5 (k0_t1 : Fin k0_t1_loop.trips) : Fin 3 → Nat :=
  let c1 : Index := 1#32
  let c0_i32_13 : BitVec 32 := 0#32
  let c1_i32_15 : BitVec 32 := 1#32
  let arg12 : BitVec 32 := Scf.iv c0_i32_13 c1_i32_15 k0_t1
  let v68 : Index := Scalar.indexCast arg12
  let c0_26 : Index := 0#32
  ![1, v68.toNat, 0]
def k0_off6 (k0_t1 : Fin k0_t1_loop.trips) : Fin 3 → Nat :=
  let c0_35 : Index := 0#32
  let c0_i32_13 : BitVec 32 := 0#32
  let c1_i32_15 : BitVec 32 := 1#32
  let arg12 : BitVec 32 := Scf.iv c0_i32_13 c1_i32_15 k0_t1
  let v113 : Index := Scalar.indexCast arg12
  let c0_36 : Index := 0#32
  ![0, v113.toNat, 0]
def k0_off7 (k0_t1 : Fin k0_t1_loop.trips) : Fin 3 → Nat :=
  let c0_37 : Index := 0#32
  let c0_i32_13 : BitVec 32 := 0#32
  let c1_i32_15 : BitVec 32 := 1#32
  let arg12 : BitVec 32 := Scf.iv c0_i32_13 c1_i32_15 k0_t1
  let v117 : Index := Scalar.indexCast arg12
  let c0_38 : Index := 0#32
  ![0, v117.toNat, 0]
def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]
-- ==== ReferenceIdeal.lean ====
abbrev S4x16x512x960 : Shape := ⟨4, ![4, 16, 512, 960]⟩
abbrev S4x2x512x960 : Shape := ⟨4, ![4, 2, 512, 960]⟩
abbrev S4x1x512x960 : Shape := ⟨4, ![4, 1, 512, 960]⟩
abbrev S4x17x512x960 : Shape := ⟨4, ![4, 17, 512, 960]⟩
abbrev S960 : Shape := ⟨1, ![960]⟩
abbrev S512 : Shape := ⟨1, ![512]⟩
abbrev S1x1x960 : Shape := ⟨3, ![1, 1, 960]⟩
abbrev S4x512x960 : Shape := ⟨3, ![4, 512, 960]⟩
abbrev S1x512x1 : Shape := ⟨3, ![1, 512, 1]⟩
abbrev S_ : Shape := ⟨0, ![]⟩
abbrev S4x512x960x17 : Shape := ⟨4, ![4, 512, 960, 17]⟩
abbrev S1966080x17 : Shape := ⟨2, ![1966080, 17]⟩
abbrev S4 : Shape := ⟨1, ![4]⟩
abbrev S4x1x1 : Shape := ⟨3, ![4, 1, 1]⟩
abbrev S1966080 : Shape := ⟨1, ![1966080]⟩
abbrev S1966080x1 : Shape := ⟨2, ![1966080, 1]⟩

abbrev nBuf : Space → Nat
  | .hbm => 271
  | .vmem => 0
  | .smem => 0
  | _ => 0

abbrev hbmTy0_0 (i : Nat) : BufTy := match i % 128 with
  | 0 => ⟨S4x16x512x960, .f32⟩
  | 1 => ⟨S4x2x512x960, .f32⟩
  | 2 => ⟨S4x1x512x960, .f32⟩
  | 3 => ⟨S4x1x512x960, .f32⟩
  | 4 => ⟨S4x16x512x960, .f32⟩
  | 5 => ⟨S4x16x512x960, .f32⟩
  | 6 => ⟨S4x17x512x960, .f32⟩
  | 7 => ⟨S960, .f32⟩
  | 8 => ⟨S512, .f32⟩
  | 9 => ⟨S1x1x960, .f32⟩
  | 10 => ⟨S4x1x512x960, .f32⟩
  | 11 => ⟨S4x512x960, .f32⟩
  | 12 => ⟨S4x512x960, .f32⟩
  | 13 => ⟨S4x512x960, .f32⟩
  | 14 => ⟨S1x512x1, .f32⟩
  | 15 => ⟨S4x1x512x960, .f32⟩
  | 16 => ⟨S4x512x960, .f32⟩
  | 17 => ⟨S4x512x960, .f32⟩
  | 18 => ⟨S4x512x960, .f32⟩
  | 19 => ⟨S4x512x960, .f32⟩
  | 20 => ⟨S4x512x960, .f32⟩
  | 21 => ⟨S4x512x960, .i32⟩
  | 22 => ⟨S4x512x960, .i32⟩
  | 23 => ⟨S_, .i32⟩
  | 24 => ⟨S4x512x960, .i32⟩
  | 25 => ⟨S4x512x960, .i32⟩
  | 26 => ⟨S_, .i32⟩
  | 27 => ⟨S4x512x960, .i32⟩
  | 28 => ⟨S4x512x960, .i32⟩
  | 29 => ⟨S4x512x960, .f32⟩
  | 30 => ⟨S_, .f32⟩
  | 31 => ⟨S4x512x960, .f32⟩
  | 32 => ⟨S4x512x960, .f32⟩
  | 33 => ⟨S4x512x960, .f32⟩
  | 34 => ⟨S_, .f32⟩
  | 35 => ⟨S4x512x960, .f32⟩
  | 36 => ⟨S4x512x960, .f32⟩
  | 37 => ⟨S4x512x960x17, .f32⟩
  | 38 => ⟨S1966080x17, .f32⟩
  | 39 => ⟨S4, .i32⟩
  | 40 => ⟨S4x1x1, .i32⟩
  | 41 => ⟨S_, .i32⟩
  | 42 => ⟨S4x1x1, .i32⟩
  | 43 => ⟨S4x1x1, .i32⟩
  | 44 => ⟨S_, .f32⟩
  | 45 => ⟨S1966080x17, .f32⟩
  | 46 => ⟨S4x512x960, .f32⟩
  | 47 => ⟨S4x512x960, .f32⟩
  | 48 => ⟨S4x512x960, .f32⟩
  | 49 => ⟨S4x512x960, .f32⟩
  | 50 => ⟨S_, .i32⟩
  | 51 => ⟨S4x512x960, .i32⟩
  | 52 => ⟨S4x512x960, .i1⟩
  | 53 => ⟨S_, .i32⟩
  | 54 => ⟨S4x512x960, .i32⟩
  | 55 => ⟨S4x512x960, .i1⟩
  | 56 => ⟨S4x512x960, .i1⟩
  | 57 => ⟨S_, .i32⟩
  | 58 => ⟨S4x512x960, .i32⟩
  | 59 => ⟨S4x512x960, .i1⟩
  | 60 => ⟨S4x512x960, .i1⟩
  | 61 => ⟨S_, .i32⟩
  | 62 => ⟨S4x512x960, .i32⟩
  | 63 => ⟨S4x512x960, .i1⟩
  | 64 => ⟨S4x512x960, .i1⟩
  | 65 => ⟨S_, .i32⟩
  | 66 => ⟨S_, .i32⟩
  | 67 => ⟨S_, .i32⟩
  | 68 => ⟨S4x512x960, .i32⟩
  | 69 => ⟨S4x512x960, .i32⟩
  | 70 => ⟨S_, .i32⟩
  | 71 => ⟨S4x512x960, .i32⟩
  | 72 => ⟨S4x512x960, .i32⟩
  | 73 => ⟨S_, .i32⟩
  | 74 => ⟨S4x512x960, .i32⟩
  | 75 => ⟨S4x512x960, .i32⟩
  | 76 => ⟨S4x512x960, .i32⟩
  | 77 => ⟨S4x512x960, .i32⟩
  | 78 => ⟨S_, .i32⟩
  | 79 => ⟨S_, .i32⟩
  | 80 => ⟨S_, .i32⟩
  | 81 => ⟨S4x512x960, .i32⟩
  | 82 => ⟨S4x512x960, .i32⟩
  | 83 => ⟨S_, .i32⟩
  | 84 => ⟨S4x512x960, .i32⟩
  | 85 => ⟨S4x512x960, .i32⟩
  | 86 => ⟨S4x512x960, .i32⟩
  | 87 => ⟨S1966080, .i32⟩
  | 88 => ⟨S_, .f32⟩
  | 89 => ⟨S4x512x960, .f32⟩
  | 90 => ⟨S4x512x960, .f32⟩
  | 91 => ⟨S1966080x1, .f32⟩
  | 92 => ⟨S1966080x17, .f32⟩
  | 93 => ⟨S1966080x17, .f32⟩
  | 94 => ⟨S_, .i32⟩
  | 95 => ⟨S1966080, .i32⟩
  | 96 => ⟨S1966080, .i1⟩
  | 97 => ⟨S_, .i32⟩
  | 98 => ⟨S1966080, .i32⟩
  | 99 => ⟨S1966080, .i32⟩
  | 100 => ⟨S1966080, .i32⟩
  | 101 => ⟨S1966080x1, .i32⟩
  | 102 => ⟨S1966080x17, .f32⟩
  | 103 => ⟨S_, .i32⟩
  | 104 => ⟨S4x512x960, .i32⟩
  | 105 => ⟨S4x512x960, .i1⟩
  | 106 => ⟨S_, .i32⟩
  | 107 => ⟨S4x512x960, .i32⟩
  | 108 => ⟨S4x512x960, .i1⟩
  | 109 => ⟨S4x512x960, .i1⟩
  | 110 => ⟨S_, .i32⟩
  | 111 => ⟨S4x512x960, .i32⟩
  | 112 => ⟨S4x512x960, .i1⟩
  | 113 => ⟨S4x512x960, .i1⟩
  | 114 => ⟨S_, .i32⟩
  | 115 => ⟨S4x512x960, .i32⟩
  | 116 => ⟨S4x512x960, .i1⟩
  | 117 => ⟨S4x512x960, .i1⟩
  | 118 => ⟨S_, .i32⟩
  | 119 => ⟨S_, .i32⟩
  | 120 => ⟨S_, .i32⟩
  | 121 => ⟨S4x512x960, .i32⟩
  | 122 => ⟨S4x512x960, .i32⟩
  | 123 => ⟨S_, .i32⟩
  | 124 => ⟨S4x512x960, .i32⟩
  | 125 => ⟨S4x512x960, .i32⟩
  | 126 => ⟨S_, .i32⟩
  | 127 => ⟨S4x512x960, .i32⟩
  | _ => ⟨S4x16x512x960, .f32⟩

abbrev hbmTy0_1 (i : Nat) : BufTy := match i % 128 with
  | 0 => ⟨S4x512x960, .i32⟩
  | 1 => ⟨S4x512x960, .i32⟩
  | 2 => ⟨S4x512x960, .i32⟩
  | 3 => ⟨S_, .i32⟩
  | 4 => ⟨S_, .i32⟩
  | 5 => ⟨S_, .i32⟩
  | 6 => ⟨S4x512x960, .i32⟩
  | 7 => ⟨S4x512x960, .i32⟩
  | 8 => ⟨S_, .i32⟩
  | 9 => ⟨S4x512x960, .i32⟩
  | 10 => ⟨S4x512x960, .i32⟩
  | 11 => ⟨S4x512x960, .i32⟩
  | 12 => ⟨S1966080, .i32⟩
  | 13 => ⟨S_, .f32⟩
  | 14 => ⟨S4x512x960, .f32⟩
  | 15 => ⟨S4x512x960, .f32⟩
  | 16 => ⟨S1966080x1, .f32⟩
  | 17 => ⟨S1966080x17, .f32⟩
  | 18 => ⟨S1966080x17, .f32⟩
  | 19 => ⟨S_, .i32⟩
  | 20 => ⟨S1966080, .i32⟩
  | 21 => ⟨S1966080, .i1⟩
  | 22 => ⟨S_, .i32⟩
  | 23 => ⟨S1966080, .i32⟩
  | 24 => ⟨S1966080, .i32⟩
  | 25 => ⟨S1966080, .i32⟩
  | 26 => ⟨S1966080x1, .i32⟩
  | 27 => ⟨S1966080x17, .f32⟩
  | 28 => ⟨S_, .i32⟩
  | 29 => ⟨S4x512x960, .i32⟩
  | 30 => ⟨S4x512x960, .i1⟩
  | 31 => ⟨S_, .i32⟩
  | 32 => ⟨S4x512x960, .i32⟩
  | 33 => ⟨S4x512x960, .i1⟩
  | 34 => ⟨S4x512x960, .i1⟩
  | 35 => ⟨S_, .i32⟩
  | 36 => ⟨S4x512x960, .i32⟩
  | 37 => ⟨S4x512x960, .i1⟩
  | 38 => ⟨S4x512x960, .i1⟩
  | 39 => ⟨S_, .i32⟩
  | 40 => ⟨S4x512x960, .i32⟩
  | 41 => ⟨S4x512x960, .i1⟩
  | 42 => ⟨S4x512x960, .i1⟩
  | 43 => ⟨S_, .i32⟩
  | 44 => ⟨S_, .i32⟩
  | 45 => ⟨S_, .i32⟩
  | 46 => ⟨S4x512x960, .i32⟩
  | 47 => ⟨S4x512x960, .i32⟩
  | 48 => ⟨S_, .i32⟩
  | 49 => ⟨S4x512x960, .i32⟩
  | 50 => ⟨S4x512x960, .i32⟩
  | 51 => ⟨S_, .i32⟩
  | 52 => ⟨S4x512x960, .i32⟩
  | 53 => ⟨S4x512x960, .i32⟩
  | 54 => ⟨S4x512x960, .i32⟩
  | 55 => ⟨S4x512x960, .i32⟩
  | 56 => ⟨S_, .i32⟩
  | 57 => ⟨S_, .i32⟩
  | 58 => ⟨S_, .i32⟩
  | 59 => ⟨S4x512x960, .i32⟩
  | 60 => ⟨S4x512x960, .i32⟩
  | 61 => ⟨S_, .i32⟩
  | 62 => ⟨S4x512x960, .i32⟩
  | 63 => ⟨S4x512x960, .i32⟩
  | 64 => ⟨S4x512x960, .i32⟩
  | 65 => ⟨S1966080, .i32⟩
  | 66 => ⟨S_, .f32⟩
  | 67 => ⟨S4x512x960, .f32⟩
  | 68 => ⟨S4x512x960, .f32⟩
  | 69 => ⟨S1966080x1, .f32⟩
  | 70 => ⟨S1966080x17, .f32⟩
  | 71 => ⟨S1966080x17, .f32⟩
  | 72 => ⟨S_, .i32⟩
  | 73 => ⟨S1966080, .i32⟩
  | 74 => ⟨S1966080, .i1⟩
  | 75 => ⟨S_, .i32⟩
  | 76 => ⟨S1966080, .i32⟩
  | 77 => ⟨S1966080, .i32⟩
  | 78 => ⟨S1966080, .i32⟩
  | 79 => ⟨S1966080x1, .i32⟩
  | 80 => ⟨S1966080x17, .f32⟩
  | 81 => ⟨S_, .i32⟩
  | 82 => ⟨S4x512x960, .i32⟩
  | 83 => ⟨S4x512x960, .i1⟩
  | 84 => ⟨S_, .i32⟩
  | 85 => ⟨S4x512x960, .i32⟩
  | 86 => ⟨S4x512x960, .i1⟩
  | 87 => ⟨S4x512x960, .i1⟩
  | 88 => ⟨S_, .i32⟩
  | 89 => ⟨S4x512x960, .i32⟩
  | 90 => ⟨S4x512x960, .i1⟩
  | 91 => ⟨S4x512x960, .i1⟩
  | 92 => ⟨S_, .i32⟩
  | 93 => ⟨S4x512x960, .i32⟩
  | 94 => ⟨S4x512x960, .i1⟩
  | 95 => ⟨S4x512x960, .i1⟩
  | 96 => ⟨S_, .i32⟩
  | 97 => ⟨S_, .i32⟩
  | 98 => ⟨S_, .i32⟩
  | 99 => ⟨S4x512x960, .i32⟩
  | 100 => ⟨S4x512x960, .i32⟩
  | 101 => ⟨S_, .i32⟩
  | 102 => ⟨S4x512x960, .i32⟩
  | 103 => ⟨S4x512x960, .i32⟩
  | 104 => ⟨S_, .i32⟩
  | 105 => ⟨S4x512x960, .i32⟩
  | 106 => ⟨S4x512x960, .i32⟩
  | 107 => ⟨S4x512x960, .i32⟩
  | 108 => ⟨S4x512x960, .i32⟩
  | 109 => ⟨S_, .i32⟩
  | 110 => ⟨S_, .i32⟩
  | 111 => ⟨S_, .i32⟩
  | 112 => ⟨S4x512x960, .i32⟩
  | 113 => ⟨S4x512x960, .i32⟩
  | 114 => ⟨S_, .i32⟩
  | 115 => ⟨S4x512x960, .i32⟩
  | 116 => ⟨S4x512x960, .i32⟩
  | 117 => ⟨S4x512x960, .i32⟩
  | 118 => ⟨S1966080, .i32⟩
  | 119 => ⟨S_, .f32⟩
  | 120 => ⟨S4x512x960, .f32⟩
  | 121 => ⟨S4x512x960, .f32⟩
  | 122 => ⟨S1966080x1, .f32⟩
  | 123 => ⟨S1966080x17, .f32⟩
  | 124 => ⟨S1966080x17, .f32⟩
  | 125 => ⟨S_, .i32⟩
  | 126 => ⟨S1966080, .i32⟩
  | 127 => ⟨S1966080, .i1⟩
  | _ => ⟨S4x16x512x960, .f32⟩

abbrev hbmTy0_2 (i : Nat) : BufTy := match i % 128 with
  | 0 => ⟨S_, .i32⟩
  | 1 => ⟨S1966080, .i32⟩
  | 2 => ⟨S1966080, .i32⟩
  | 3 => ⟨S1966080, .i32⟩
  | 4 => ⟨S1966080x1, .i32⟩
  | 5 => ⟨S1966080x17, .f32⟩
  | 6 => ⟨S4x512x960x17, .f32⟩
  | 7 => ⟨S4x17x512x960, .f32⟩
  | 8 => ⟨S4x1x512x960, .f32⟩
  | 9 => ⟨S_, .f32⟩
  | 10 => ⟨S4x1x512x960, .f32⟩
  | 11 => ⟨S4x1x512x960, .f32⟩
  | 12 => ⟨S4x16x512x960, .f32⟩
  | 13 => ⟨S4x16x512x960, .f32⟩
  | 14 => ⟨S4x16x512x960, .f32⟩
  | _ => ⟨S4x16x512x960, .f32⟩

abbrev hbmTy (i : Nat) : BufTy := match i / 128 with
  | 0 => hbmTy0_0 i
  | 1 => hbmTy0_1 i
  | 2 => hbmTy0_2 i
  | _ => ⟨S4x16x512x960, .f32⟩

abbrev bufTy : (tb : Table) → Fin (tcTables nBuf tb) → BufTy
  | .hbm, ⟨i, _⟩ => hbmTy i
  | _, _ => ⟨S4x16x512x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_4 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_8 : Ref sig .tc := ⟨.hbm, 65, rfl⟩
abbrev main_c_9 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_c_12 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_19 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_20 : Ref sig .tc := ⟨.hbm, 118, rfl⟩
abbrev main_c_21 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v83 : Ref sig .tc := ⟨.hbm, 125, rfl⟩
abbrev main_c_22 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_23 : Ref sig .tc := ⟨.hbm, 131, rfl⟩
abbrev main_c_24 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_25 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_c_26 : Ref sig .tc := ⟨.hbm, 147, rfl⟩
abbrev main_v96 : Ref sig .tc := ⟨.hbm, 148, rfl⟩
abbrev main_v97 : Ref sig .tc := ⟨.hbm, 149, rfl⟩
abbrev main_c_27 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_c_28 : Ref sig .tc := ⟨.hbm, 156, rfl⟩
abbrev main_v103 : Ref sig .tc := ⟨.hbm, 157, rfl⟩
abbrev main_v104 : Ref sig .tc := ⟨.hbm, 158, rfl⟩
abbrev main_c_29 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_c_30 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_c_31 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_c_32 : Ref sig .tc := ⟨.hbm, 171, rfl⟩
abbrev main_c_33 : Ref sig .tc := ⟨.hbm, 172, rfl⟩
abbrev main_call6_v0 : Ref sig .tc := ⟨.hbm, 173, rfl⟩
abbrev main_call6_v1 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_v114 : Ref sig .tc := ⟨.hbm, 178, rfl⟩
abbrev main_c_34 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_c_35 : Ref sig .tc := ⟨.hbm, 184, rfl⟩
abbrev main_c_36 : Ref sig .tc := ⟨.hbm, 185, rfl⟩
abbrev main_call7_v0 : Ref sig .tc := ⟨.hbm, 186, rfl⟩
abbrev main_call7_v1 : Ref sig .tc := ⟨.hbm, 187, rfl⟩
abbrev main_call7_v2 : Ref sig .tc := ⟨.hbm, 188, rfl⟩
abbrev main_call7_v3 : Ref sig .tc := ⟨.hbm, 189, rfl⟩
abbrev main_call7_v4 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_cst_37 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_c_38 : Ref sig .tc := ⟨.hbm, 200, rfl⟩
abbrev main_v127 : Ref sig .tc := ⟨.hbm, 201, rfl⟩
abbrev main_v128 : Ref sig .tc := ⟨.hbm, 202, rfl⟩
abbrev main_c_39 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_c_40 : Ref sig .tc := ⟨.hbm, 209, rfl⟩
abbrev main_v134 : Ref sig .tc := ⟨.hbm, 210, rfl⟩
abbrev main_v135 : Ref sig .tc := ⟨.hbm, 211, rfl⟩
abbrev main_c_41 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_c_42 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_c_43 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_c_44 : Ref sig .tc := ⟨.hbm, 224, rfl⟩
abbrev main_c_45 : Ref sig .tc := ⟨.hbm, 225, rfl⟩
abbrev main_call9_v0 : Ref sig .tc := ⟨.hbm, 226, rfl⟩
abbrev main_call9_v1 : Ref sig .tc := ⟨.hbm, 227, rfl⟩
abbrev main_call9_v2 : Ref sig .tc := ⟨.hbm, 228, rfl⟩
abbrev main_call9_v3 : Ref sig .tc := ⟨.hbm, 229, rfl⟩
abbrev main_call9_v4 : Ref sig .tc := ⟨.hbm, 230, rfl⟩
abbrev main_v145 : Ref sig .tc := ⟨.hbm, 231, rfl⟩
abbrev main_c_46 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_c_47 : Ref sig .tc := ⟨.hbm, 237, rfl⟩
abbrev main_c_48 : Ref sig .tc := ⟨.hbm, 238, rfl⟩
abbrev main_call10_v0 : Ref sig .tc := ⟨.hbm, 239, rfl⟩
abbrev main_call10_v1 : Ref sig .tc := ⟨.hbm, 240, rfl⟩
abbrev main_call10_v2 : Ref sig .tc := ⟨.hbm, 241, rfl⟩
abbrev main_call10_v3 : Ref sig .tc := ⟨.hbm, 242, rfl⟩
abbrev main_call10_v4 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_cst_49 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_c_50 : Ref sig .tc := ⟨.hbm, 253, rfl⟩
abbrev main_v158 : Ref sig .tc := ⟨.hbm, 254, rfl⟩
abbrev main_v159 : Ref sig .tc := ⟨.hbm, 255, rfl⟩
abbrev main_c_51 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_cst_52 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩

abbrev nD : Nat := 1
abbrev τ : Topo := Topo.v7x

variable {F : FTy → Type} [FloatOps F]
-- ==== Proof.Spec.lean ====
/-
  The vocabulary of the value claim, over the extended reals and free of either program: the floor of a landing
  coordinate, whole numbers as extended reals, and the HAT WEIGHT with which a source landing at `p` reaches the
  whole coordinate `t` along one axis.
-/
module

public import Idealize.ShloMosaic.PureOps.Ideal

@[expose] public section

noncomputable section

namespace Cert.Splat

open Idealize.ShloMosaic

/-- The floor of an extended real (the infinities are fixed). -/
def fl (p : EReal) : EReal := Ideal.liftRound Int.floor p

/-- A whole number as an extended real. -/
def zc (n : ℤ) : EReal := ((n : ℝ) : EReal)

/-- The share of a source landing at `p` that the whole coordinate `t` receives along one axis: `1 - (p - ⌊p⌋)` at
    the floor, `p - ⌊p⌋` one past the floor, nothing elsewhere. -/
def hat (p t : EReal) : EReal := (if fl p = t then 1 - (p - fl p) else 0) + (if fl p + 1 = t then p - fl p else 0)

/-- The smallest denominator the programs add to the accumulated weight, the f32 word of `1e-7`. -/
def eps : EReal := Ideal.ofBits .f32 0x33D6BF95#32

theorem zc_add (a b : ℤ) : zc a + zc b = zc (a + b) := by
  unfold zc; rw [← EReal.coe_add]; push_cast; rfl

theorem zc_sub (a b : ℤ) : zc a - zc b = zc (a - b) := by
  unfold zc; rw [← EReal.coe_sub]; push_cast; rfl

theorem zc_inj {a b : ℤ} : zc a = zc b ↔ a = b := by
  unfold zc; rw [EReal.coe_eq_coe_iff, Int.cast_inj]

theorem one_eq_zc : (1 : EReal) = zc 1 := by unfold zc; simp

theorem zero_eq_zc : (0 : EReal) = zc 0 := by unfold zc; simp

/-- The f32 word of 64 is the whole number 64. -/
theorem ofBits_sixtyFour : Ideal.ofBits .f32 0x42800000#32 = zc 64 := by
  unfold zc
  simp [Ideal.ofBits, Ideal.ieee, -EReal.coe_mul]; norm_num

/-- A word read as a signed integer, converted exactly. -/
theorem sitofp_eq {w : ℕ} (b : BitVec w) : (FloatOps.sitofp .f32 b : Ideal .f32) = zc b.toInt := rfl

end Cert.Splat

end
-- ==== Proof.Payload.lean ====
/-
  What the kernel's vector expressions hold, element by element: the coordinate vectors, the two hat-weight planes of
  one source row, the accumulator after one source row, and the normalised block that a grid point stores.
-/
module

public import proofs.«01_k».proof.Proof.Spec
public import proofs.«01_k».proof.Proof.Gen.KernelIdeal.Skeleton
public import Idealize.ShloMosaic.Lib.Pointwise
public import Idealize.ShloMosaic.Lib.ValueIdx

@[expose] public section

noncomputable section

namespace Cert.Splat

open Idealize.ShloMosaic Idealize.ShloMosaic.TcCoe Cert.KernelIdeal Cert.KernelIdeal.Gen

/-- A small natural number survives being written as a 32-bit word and read back signed. -/
theorem toInt_ofNat32 {n : ℕ} (h : n < 2147483648) : (BitVec.ofNat 32 n).toInt = n := by
  rw [BitVec.toInt_eq_toNat_of_lt (by rw [BitVec.toNat_ofNat]; omega), BitVec.toNat_ofNat, Nat.mod_eq_of_lt (by omega)]

/-- A loop counter from zero by ones is the trip's number. -/
theorem iv_toInt (k : Fin k0_t1_loop.trips) : (Scf.iv 0#32 1#32 k.val).toInt = k.val := by
  have := k.isLt
  have h : k0_t1_loop.trips ≤ 256 := k0_t1_abs.2.1
  have e : Scf.iv 0#32 1#32 k.val = BitVec.ofNat 32 k.val := by
    unfold Scf.iv
    simp
  rw [e, toInt_ofNat32 (by omega)]

/-- The target rows of a block: row `t` of the block whose first row is `v0`. -/
theorem rows_at (v0 : BitVec 32) (t : Fin 128) (s : Fin 256) :
    k0_pay2 (F := Ideal) v0 (ix2 t s) = zc (t.val + v0.toInt) := by
  pointwise [k0_pay2]
  rw [sitofp_eq, toInt_ofNat32 (by omega)]
  exact zc_add _ _

/-- The target columns of a block: column `x` of the block whose first column is `v1`. -/
theorem cols_at (v1 : BitVec 32) (x : Fin 128) (s : Fin 256) :
    k0_pay3 (F := Ideal) v1 (ix2 x s) = zc (x.val + v1.toInt) := by
  pointwise [k0_pay3]
  rw [sitofp_eq, toInt_ofNat32 (by omega)]
  exact zc_add _ _

/-- The window's first source row. -/
theorem firstRow_eq (v5 : BitVec 32) : k0_pay4 (F := Ideal) v5 = zc v5.toInt := rfl

/-- The source columns of a window: `s` in the window whose first padded column is `v6`, 64 columns of padding
    standing before the image. -/
theorem srcCols_at (v6 : BitVec 32) (z : Fin 1) (s : Fin 256) :
    k0_pay5 (F := Ideal) v6 (ix2 z s) = zc (s.val + v6.toInt - 64) := by
  pointwise [k0_pay5]
  rw [sitofp_eq, toInt_ofNat32 (by omega), ofBits_sixtyFour]
  show zc _ + (zc _ - zc _) = _
  rw [zc_sub, zc_add, add_sub_assoc]

/-- The row weights of one source row: the hat weight of its vertical landing coordinate at the target row. -/
theorem rowWeight_at (v39 : FVec Ideal S128x256 .f32) (v45 : Ideal .f32) (k : Fin k0_t1_loop.trips)
    (v69 : Vec Ideal S1x1x256 .f32) (t : Fin 128) (s : Fin 256) :
    k0_pay11 (F := Ideal) v39 v45 0#32 1#32 k v69 (ix2 t s)
      = hat (v69 (ix3 0 0 s) + (v45 + zc k.val)) (v39 (ix2 t s)) := by
  pointwise [k0_pay11]
  rw [iv_toInt]
  rfl

/-- The column weights of one source row: the hat weight of its horizontal landing coordinate at the target column. -/
theorem colWeight_at (v44 : FVec Ideal S128x256 .f32) (v51 : FVec Ideal S1x256 .f32) (v65 : Vec Ideal S1x1x256 .f32)
    (x : Fin 128) (s : Fin 256) :
    k0_pay12 (F := Ideal) v44 v51 v65 (ix2 x s)
        + Scalar.select (k0_pay13 (F := Ideal) v44 v51 v65 (ix2 x s)) (k0_pay14 (F := Ideal) v51 v65 (ix2 x s)) (k0_pay15 (F := Ideal) (ix2 x s))
      = hat (v65 (ix3 0 0 s) + v51 (ix2 0 s)) (v44 (ix2 x s)) := by
  pointwise [k0_pay12, k0_pay13, k0_pay14, k0_pay15, k0_pay10, k0_pay9, k0_pay8]
  rfl

/-- What a source contributes to channel `q` before its weights: channel `q`'s value times `exp` of its metric, and
    `exp` of the metric itself to the weight channel (the one past the sixteen). -/
def amount (v w : EReal) (q : ℕ) : EReal := if q < 16 then v * Ideal.exp w else Ideal.exp w

/-- The accumulator after one source row: what it held plus the row's sources, each times its two weights. -/
theorem accum_at (v95 v103 : FVec Ideal S128x256 .f32) (v107 : IVec S128x256 1) (v109 v110 : FVec Ideal S128x256 .f32)
    (v114 : Vec Ideal S1x1x256 .f32) (v118 : Vec Ideal S16x1x256 .f32) (v129 : Vec Ideal S2176x128 .f32)
    (j : Fin 2176) (x : Fin 128) :
    k0_pay6 (F := Ideal) v95 v103 v107 v109 v110 v114 v118 v129 (ix2 j x)
      = v129 (ix2 j x) + ∑ s : Fin 256,
          amount (if h : j.val / 128 < 16 then v118 (ix3 ⟨j.val / 128, h⟩ 0 s) else 0) (v114 (ix3 0 0 s)) (j.val / 128)
            * v95 (ix2 ⟨j.val % 128, Nat.mod_lt _ (by decide)⟩ s)
            * (v103 (ix2 x s) + Scalar.select (v107 (ix2 x s)) (v109 (ix2 x s)) (v110 (ix2 x s))) := by
  pointwise [k0_pay6]
  congr 1
  refine Finset.sum_congr rfl fun s _ => ?_
  congr 2
  unfold amount
  by_cases h : j.val / 128 < 16
  · rw [dif_pos h, if_pos h, dif_pos h]
  · rw [dif_neg h, if_neg h]

/-- The block a grid point stores: each of the sixteen channels over the accumulated weight plus `eps`. -/
theorem quotient_at (v53 : Vec Ideal S2176x128 .f32) (z : Fin 1) (q : Fin 16) (t x : Fin 128) :
    k0_pay7 (F := Ideal) v53 (ix4 z q t x)
      = Ideal.div (v53 (ix2 ⟨q.val * 128 + t.val, by omega⟩ x)) (v53 (ix2 ⟨2048 + t.val, by omega⟩ x) + eps) := by
  pointwise [k0_pay7]
  rfl

end Cert.Splat

end
-- ==== Proof.Trip.lean ====
/-
  One grid point's loop: the accumulator after the trips before `n` is the sum of those trips' source rows, so what the
  grid point stores is the quotient of two sums over its whole 256 × 256 source window.
-/
module

public import proofs.«01_k».proof.Proof.Payload
public import proofs.«01_k».proof.Proof.Gen.KernelIdeal.Value
public import Idealize.ShloMosaic.Lib.Tactic

@[expose] public section

noncomputable section

namespace Cert.Splat

open Idealize.ShloMosaic Idealize.ShloMosaic.TcCoe Cert.KernelIdeal Cert.KernelIdeal.Gen

/-- One source row's share of accumulator element `(j, x)`: row `r` of the window, staged as the image `A`, the flow
    `B` and the metric `M`; `ty`, `tx` the block's first target row and column, `wy` the window's first source row,
    `px` its first padded source column. Accumulator row `j` is channel `j / 128` at target row `j % 128`. -/
def rowShare (A : Vec Ideal S16x256x256 .f32) (B : Vec Ideal S2x256x256 .f32) (M : Vec Ideal S1x256x256 .f32)
    (ty tx wy px : BitVec 32) (j : Fin 2176) (x : Fin 128) (r : Fin 256) : EReal :=
  ∑ s : Fin 256, amount (if h : j.val / 128 < 16 then A (ix3 ⟨j.val / 128, h⟩ r s) else 0) (M (ix3 0 r s)) (j.val / 128)
    * hat (B (ix3 1 r s) + (zc wy.toInt + zc r.val)) (zc ((j.val % 128 : ℕ) + ty.toInt))
    * hat (B (ix3 0 r s) + zc (s.val + px.toInt - 64)) (zc (x.val + tx.toInt))

theorem trips_eq : k0_t1_loop.trips = 256 := by decide +kernel

section
variable (𝒱 : Variants) (c : Dev nD) (bd : Option 𝒱.V) (i : grid0.Coords)
  (arg3 : Memref sig .tc .hbm S2x16x512x1152 .f32) (harg3 : arg3.IsWhole) (arg4 : Memref sig .tc .hbm S2x2x512x1152 .f32) (harg4 : arg4.IsWhole)
  (arg5 : Memref sig .tc .hbm S2x1x512x1152 .f32) (harg5 : arg5.IsWhole) (arg6 : Memref sig .tc .vmem S1x16x128x128 .f32) (harg6 : arg6.IsWhole)
  (arg7 : Memref sig .tc .vmem S16x256x256 .f32) (harg7 : arg7.IsWhole) (arg8 : Memref sig .tc .vmem S2x256x256 .f32) (harg8 : arg8.IsWhole)
  (arg9 : Memref sig .tc .vmem S1x256x256 .f32) (harg9 : arg9.IsWhole) (arg10 : Memref sig .tc .vmem S2176x128 .f32) (harg10 : arg10.IsWhole)
  (arg11 : DmaSems sig S3) (v0 v1 v5 v6 : BitVec 32)
  (X7 : BufTy.Contents (Elt Ideal) arg7.view.ty) (X8 : BufTy.Contents (Elt Ideal) arg8.view.ty) (X9 : BufTy.Contents (Elt Ideal) arg9.view.ty)

/-- A load of one row of a three-axis buffer: a slab of `n` planes from plane `a`, row `k`, all 256 columns. -/
theorem row_load {n N : ℕ} {v : View sig .tc .vmem ⟨3, ![N, 256, 256]⟩ .f32} (X : BufTy.Contents (Elt Ideal) v.ty)
    {off : Fin 3 → Nat} {a k : ℕ} (hoff : off = ![a, k, 0]) (inb : ∀ b, off b + (![n, 1, 256] : Fin 3 → Nat) b ≤ (![N, 256, 256] : Fin 3 → Nat) b)
    (q : Fin n) (z : Fin 1) (s : Fin 256) (ha : a + q.val < N) (hk : k < 256) :
    View.readAt (Elt Ideal) v (Rect.unit (s := ⟨3, ![N, 256, 256]⟩) off ![n, 1, 256] inb).toLoadRect X (ix3 q z s)
      = v.read (Elt Ideal) X (ix3 ⟨a + q.val, ha⟩ ⟨k, hk⟩ s) := by
  subst hoff
  have hz : z.val = 0 := by omega
  rw [View.readAt_eq_ld]
  refine congrArg (v.read (Elt Ideal) X) (funext fun b => Fin.ext ?_)
  match b with
  | ⟨0, _⟩ => show a + 1 * q.val = a + q.val; omega
  | ⟨1, _⟩ => show k + 1 * z.val = k; omega
  | ⟨2, _⟩ => show 0 + 1 * s.val = s.val; omega

/-- The trip's stored vector, whatever the spelling of the offsets it loads at. -/
theorem row_step (k : Fin k0_t1_loop.trips) (hk : k.val < 256) (acc : Vec Ideal S2176x128 .f32)
    {o4 o5 o6 o7 : Fin 3 → Nat} (h4 : o4 = ![0, k.val, 0]) (h5 : o5 = ![1, k.val, 0]) (h6 : o6 = ![0, k.val, 0]) (h7 : o7 = ![0, k.val, 0])
    (i4 : ∀ b, o4 b + (![1, 1, 256] : Fin 3 → Nat) b ≤ S2x256x256.size b) (i5 : ∀ b, o5 b + (![1, 1, 256] : Fin 3 → Nat) b ≤ S2x256x256.size b)
    (i6 : ∀ b, o6 b + (![1, 1, 256] : Fin 3 → Nat) b ≤ S1x256x256.size b) (i7 : ∀ b, o7 b + (![16, 1, 256] : Fin 3 → Nat) b ≤ S16x256x256.size b)
    (j : Fin 2176) (x : Fin 128) :
    k0_pay6 (F := Ideal)
        (k0_pay11 (k0_pay2 v0) (k0_pay4 v5) 0#32 1#32 k (View.readAt (Elt Ideal) arg8.view (Rect.unit (s := S2x256x256) o5 ![1, 1, 256] i5).toLoadRect X8))
        (k0_pay12 (k0_pay3 v1) (k0_pay5 v6) (View.readAt (Elt Ideal) arg8.view (Rect.unit (s := S2x256x256) o4 ![1, 1, 256] i4).toLoadRect X8))
        (k0_pay13 (k0_pay3 v1) (k0_pay5 v6) (View.readAt (Elt Ideal) arg8.view (Rect.unit (s := S2x256x256) o4 ![1, 1, 256] i4).toLoadRect X8))
        (k0_pay14 (k0_pay5 v6) (View.readAt (Elt Ideal) arg8.view (Rect.unit (s := S2x256x256) o4 ![1, 1, 256] i4).toLoadRect X8))
        k0_pay15
        (View.readAt (Elt Ideal) arg9.view (Rect.unit (s := S1x256x256) o6 ![1, 1, 256] i6).toLoadRect X9)
        (View.readAt (Elt Ideal) arg7.view (Rect.unit (s := S16x256x256) o7 ![16, 1, 256] i7).toLoadRect X7) acc (ix2 j x)
      = acc (ix2 j x)
        + rowShare (arg7.view.read (Elt Ideal) X7) (arg8.view.read (Elt Ideal) X8) (arg9.view.read (Elt Ideal) X9) v0 v1 v5 v6 j x ⟨k.val, hk⟩ := by
  rw [accum_at]
  congr 1
  unfold rowShare
  refine Finset.sum_congr rfl fun s _ => ?_
  rw [rowWeight_at, colWeight_at, rows_at, cols_at, srcCols_at, firstRow_eq,
    row_load (N := 2) X8 h5 i5 0 0 s (by decide) hk, row_load (N := 2) X8 h4 i4 0 0 s (by decide) hk, row_load (N := 1) X9 h6 i6 0 0 s (by decide) hk]
  congr 3
  by_cases h : j.val / 128 < 16
  · rw [dif_pos h, dif_pos h, row_load (N := 16) X7 h7 i7 ⟨j.val / 128, h⟩ 0 s (by omega) hk]
    simp only [Nat.zero_add]
  · rw [dif_neg h, dif_neg h]

/-- One trip leaves, in an accumulator that holds `f`, `f` plus the trip's source row. -/
theorem trip_canon (k : Fin k0_t1_loop.trips) (hk : k.val < 256) (f : BufTy.Contents (Elt Ideal) arg10.view.ty)
    (L : List (View.Piece (Elt Ideal) S2176x128 .f32)) (j : Fin 2176) (x : Fin 128) :
    View.canon (tripL_k0_t1 𝒱 c bd i arg3 harg3 arg4 harg4 arg5 harg5 arg6 harg6 arg7 harg7 arg8 harg8 arg9 harg9 arg10 harg10 arg11 v0 v1 v5 v6 X7 X8 X9 k f ++ L) (ix2 j x)
      = arg10.view.read (Elt Ideal) f (ix2 j x)
        + rowShare (arg7.view.read (Elt Ideal) X7) (arg8.view.read (Elt Ideal) X8) (arg9.view.read (Elt Ideal) X9) v0 v1 v5 v6 j x ⟨k.val, hk⟩ := by
  unfold tripL_k0_t1 trip_k0_t1
  dsimp only
  sl_unfold_words
  rw [List.singleton_append]
  refine (congrFun (View.canon_cons_unit_zero (S := S2176x128) (off := ![0, 0]) (by funext a; fin_cases a <;> rfl) inb_S2176x128_S2176x128_0_0 _ L) (ix2 j x)).trans ?_
  refine (row_step arg7 arg8 arg9 v0 v1 v5 v6 X7 X8 X9 k hk _ (k0_off4_eq k) (k0_off5_eq k) (k0_off6_eq k) (k0_off7_eq k) _ _ _ _ j x).trans ?_
  congr 1
  rw [View.readAt_eq_ld, View.ld_unit_zero (S := S2176x128) (off := ![0, 0]) (by funext a; fin_cases a <;> rfl)]

/-- The source rows of the trips before `n`, summed. -/
def upTo (A : Vec Ideal S16x256x256 .f32) (B : Vec Ideal S2x256x256 .f32) (M : Vec Ideal S1x256x256 .f32)
    (ty tx wy px : BitVec 32) (j : Fin 2176) (x : Fin 128) (n : ℕ) : EReal :=
  ∑ r ∈ Finset.range n, if h : r < 256 then rowShare A B M ty tx wy px j x ⟨r, h⟩ else 0

/-- The accumulator, zero before the loop, holds after the trips before `n` the sum of their source rows. -/
theorem loop_canon (L : List (View.Piece (Elt Ideal) S2176x128 .f32)) (hL : ∀ j x, View.canon L (ix2 j x) = 0) (j : Fin 2176) (x : Fin 128) :
    ∀ n : ℕ, n ≤ 256 → View.canon (pb_k0_t1 𝒱 c bd i arg3 harg3 arg4 harg4 arg5 harg5 arg6 harg6 arg7 harg7 arg8 harg8 arg9 harg9 arg10 harg10 arg11 v0 v1 v5 v6 X7 X8 X9
        (arg10.view.writes (Elt Ideal) arg10.view.junk L) n ++ L) (ix2 j x)
      = upTo (arg7.view.read (Elt Ideal) X7) (arg8.view.read (Elt Ideal) X8) (arg9.view.read (Elt Ideal) X9) v0 v1 v5 v6 j x n
  | 0, _ => by
    show View.canon ([] ++ L) (ix2 j x) = _
    rw [List.nil_append, hL]
    unfold upTo
    rw [Finset.range_zero, Finset.sum_empty]
  | n + 1, h => by
    have ht : n < k0_t1_loop.trips := by rw [trips_eq]; omega
    rw [pb_k0_t1_succ (k := ⟨n, ht⟩), List.append_assoc, trip_canon (hk := by show n < 256; omega), ← View.writes_append,
      View.read_writes_junk_eq_canon, loop_canon L hL j x n (by omega)]
    unfold upTo
    rw [Finset.sum_range_succ, dif_pos (show n < 256 by omega)]

end

end Cert.Splat

end
-- ==== Proof.Block.lean ====
/-
  What one grid point stores. The point `(b, oy, ox)` copies a 256 × 256 window of the padded image, flow and metric of
  batch `b` — from source row `firstRow oy`, and from padded column `128 ox` — and stores, for each channel and each
  target of its 128 × 128 tile, the quotient of the window's weighted sum by its sum of weights.
-/
module

public import proofs.«01_k».proof.Proof.Trip

@[expose] public section

noncomputable section

namespace Cert.Splat

open Idealize.ShloMosaic Idealize.ShloMosaic.TcCoe Cert.KernelIdeal Cert.KernelIdeal.Gen

/-- The first source row of the window of target row tile `oy`: 64 rows above the tile, kept inside the image. -/
def firstRow (oy : ℕ) : ℕ := min 256 (128 * oy - 64)

theorem firstRow_le (oy : ℕ) : firstRow oy ≤ 256 := Nat.min_le_left _ _

/-- Channel `q` of a sixteen-channel array, the weight channel having none. -/
def chan {W : ℕ} (P : (⟨4, ![2, 16, 512, W]⟩ : Shape).Idx → EReal) (b : Fin 2) (q : ℕ) (y : Fin 512) (x : Fin W) : EReal :=
  if h : q < 16 then P (ix4 b ⟨q, h⟩ y x) else 0

/-- The window's sum for channel `q` at target `(t, x)` of tile `(oy, ox)`: `P` the padded image, `Q` the padded flow
    (horizontal, vertical), `R` the padded metric. -/
def windowSum (P : Vec Ideal S2x16x512x1152 .f32) (Q : Vec Ideal S2x2x512x1152 .f32) (R : Vec Ideal S2x1x512x1152 .f32)
    (b : Fin 2) (oy : Fin 4) (ox : Fin 8) (q : ℕ) (t x : Fin 128) : EReal :=
  ∑ r : Fin 256, ∑ s : Fin 256,
    have y' : Fin 512 := ⟨firstRow oy.val + r.val, by have := firstRow_le oy.val; omega⟩
    have x' : Fin 1152 := ⟨128 * ox.val + s.val, by omega⟩
    amount (chan P b q y' x') (R (ix4 b 0 y' x')) q
      * hat (Q (ix4 b 1 y' x') + zc (firstRow oy.val + r.val : ℕ)) (zc (128 * oy.val + t.val : ℕ))
      * hat (Q (ix4 b 0 y' x') + zc ((128 * ox.val + s.val : ℕ) - 64)) (zc (128 * ox.val + x.val : ℕ))

theorem off1_eq : ∀ i : grid0.Coords, k0_off1 i = ![(i 0).val, 0, firstRow (i 1).val, 128 * (i 2).val] := by decide +kernel
theorem off2_eq : ∀ i : grid0.Coords, k0_off2 i = ![(i 0).val, 0, firstRow (i 1).val, 128 * (i 2).val] := by decide +kernel
theorem off3_eq : ∀ i : grid0.Coords, k0_off3 i = ![(i 0).val, 0, firstRow (i 1).val, 128 * (i 2).val] := by decide +kernel

theorem tileRow_eq : ∀ k : Fin 4, (Scalar.muli (BitVec.ofNat 32 k.val) 128#32).toInt = 128 * k.val := by decide +kernel
theorem tileCol_eq : ∀ k : Fin 8, (Scalar.muli (BitVec.ofNat 32 k.val) 128#32).toInt = 128 * k.val := by decide +kernel
theorem firstRow_word : ∀ k : Fin 4, (Scalar.minsi 256#32 (Scalar.maxsi 0#32 (Scalar.subi (Scalar.muli (BitVec.ofNat 32 k.val) 128#32) 64#32))).toInt = firstRow k.val := by
  decide +kernel

/-- A copied window read at an element: `n` planes of batch `b`, 256 rows from `y0` and 256 columns from `x0`. -/
theorem window_at {n : ℕ} (f : (⟨4, ![2, n, 512, 1152]⟩ : Shape).Idx → EReal) {off : Fin 4 → Nat} {b y0 x0 : ℕ} (hoff : off = ![b, 0, y0, x0])
    (inb : ∀ a, off a + (![1, n, 256, 256] : Fin 4 → Nat) a ≤ (![2, n, 512, 1152] : Fin 4 → Nat) a)
    (hc : (⟨4, ![1, n, 256, 256]⟩ : Shape).ShapeCasts ⟨3, ![n, 256, 256]⟩) (q : Fin n) (r s : Fin 256) (hb : b < 2) (hy : y0 + r.val < 512) (hx : x0 + s.val < 1152) :
    shapeCast ⟨3, ![n, 256, 256]⟩ (View.ld (Val := Elt Ideal) (e' := .f32) f (Rect.unit (s := ⟨4, ![2, n, 512, 1152]⟩) off ![1, n, 256, 256] inb)) hc (ix3 q r s)
      = f (ix4 ⟨b, hb⟩ q ⟨y0 + r.val, hy⟩ ⟨x0 + s.val, hx⟩) := by
  subst hoff
  refine (shapeCast_apply _ hc (ix3 q r s) (ix4 0 q r s) ?_).trans ?_
  · rw [Shape.rowMajor_val_four, Shape.rowMajor_val_three]
    show ((0 * n + q.val) * 256 + r.val) * 256 + s.val = (q.val * 256 + r.val) * 256 + s.val
    omega
  · refine congrArg f (funext fun a => Fin.ext ?_)
    match a with
    | ⟨0, _⟩ => show b + 1 * 0 = b; omega
    | ⟨1, _⟩ => show 0 + 1 * q.val = q.val; omega
    | ⟨2, _⟩ => show y0 + 1 * r.val = y0 + r.val; omega
    | ⟨3, _⟩ => show x0 + 1 * s.val = x0 + s.val; omega

/-- One covering store of a whole buffer, read back. -/
theorem read_whole {S : Shape} (v : View sig .tc .vmem S .f32) (w : S.Idx → EReal) :
    v.read (Elt Ideal) (v.writes (Elt Ideal) v.junk [⟨Rect.whole S, w⟩]) = w := by
  rw [View.read_writes_junk_eq_canon]
  funext y
  have e := View.canon_cons_emb (Val := Elt Ideal) (e := .f32) (Rect.whole S) w [] y
  rwa [Rect.emb_whole_apply] at e

/-- The zero block the accumulator starts from. -/
theorem start_canon (j : Fin 2176) (x : Fin 128) :
    View.canon (Val := Elt Ideal) (e := .f32) [⟨Rect.unit (s := S2176x128) ![0, 0] ![2176, 128] inb_S2176x128_S2176x128_0_0, k0_pay1 (F := Ideal) k0_pay16⟩] (ix2 j x) = 0 := by
  refine (congrFun (View.canon_cons_unit_zero (S := S2176x128) (off := ![0, 0]) (by funext a; fin_cases a <;> rfl) inb_S2176x128_S2176x128_0_0 _ []) (ix2 j x)).trans ?_
  pointwise [k0_pay1, k0_pay16]

/-- The loop's sum over staged windows is the window sum of the padded arrays they were copied from. -/
theorem upTo_eq_windowSum (P : Vec Ideal S2x16x512x1152 .f32) (Q : Vec Ideal S2x2x512x1152 .f32) (R : Vec Ideal S2x1x512x1152 .f32)
    (A : Vec Ideal S16x256x256 .f32) (B : Vec Ideal S2x256x256 .f32) (M : Vec Ideal S1x256x256 .f32)
    (b : Fin 2) (oy : Fin 4) (ox : Fin 8) (ty tx wy px : BitVec 32)
    (hA : ∀ (q : Fin 16) (r s : Fin 256), A (ix3 q r s) = P (ix4 b q ⟨firstRow oy.val + r.val, by have := firstRow_le oy.val; omega⟩ ⟨128 * ox.val + s.val, by omega⟩))
    (hB : ∀ (q : Fin 2) (r s : Fin 256), B (ix3 q r s) = Q (ix4 b q ⟨firstRow oy.val + r.val, by have := firstRow_le oy.val; omega⟩ ⟨128 * ox.val + s.val, by omega⟩))
    (hM : ∀ (q : Fin 1) (r s : Fin 256), M (ix3 q r s) = R (ix4 b q ⟨firstRow oy.val + r.val, by have := firstRow_le oy.val; omega⟩ ⟨128 * ox.val + s.val, by omega⟩))
    (hty : ty.toInt = 128 * oy.val) (htx : tx.toInt = 128 * ox.val) (hwy : wy.toInt = firstRow oy.val) (hpx : px.toInt = 128 * ox.val)
    (q : ℕ) (t x : Fin 128) (j : Fin 2176) (hj : j.val = q * 128 + t.val) :
    upTo A B M ty tx wy px j x 256 = windowSum P Q R b oy ox q t x := by
  unfold upTo windowSum
  rw [Finset.sum_range]
  refine Finset.sum_congr rfl fun r _ => ?_
  rw [dif_pos r.isLt]
  unfold rowShare
  refine Finset.sum_congr rfl fun s _ => ?_
  have hq : j.val / 128 = q := by omega
  have ht : j.val % 128 = t.val := by omega
  rw [hB, hB, hM, hty, htx, hwy, hpx, hq, ht, zc_add]
  congr 2
  · congr 1
    have hc : (if h : q < 16 then A (ix3 ⟨q, h⟩ r s) else 0)
        = chan P b q ⟨firstRow oy.val + r.val, by have := firstRow_le oy.val; omega⟩ ⟨128 * ox.val + s.val, by omega⟩ := by
      unfold chan
      by_cases h : q < 16
      · rw [dif_pos h, dif_pos h, hA]
      · rw [dif_neg h, dif_neg h]
    rw [hc]
  · congr 1
    rw [Nat.cast_add, Nat.cast_mul]; congr 1; ring
  · congr 2
    push_cast; congr 1; ring
  · congr 1
    push_cast; ring

/-- WHAT A GRID POINT STORES. -/
theorem block_at (c : Dev nD) (i : grid0.Coords) (arg6 : Memref sig .tc .vmem S1x16x128x128 .f32) (harg6 : arg6.IsWhole) (arg7 : Memref sig .tc .vmem S16x256x256 .f32) (harg7 : arg7.IsWhole) (arg8 : Memref sig .tc .vmem S2x256x256 .f32) (harg8 : arg8.IsWhole) (arg9 : Memref sig .tc .vmem S1x256x256 .f32) (harg9 : arg9.IsWhole) (arg10 : Memref sig .tc .vmem S2176x128 .f32) (harg10 : arg10.IsWhole)
    (P : HbBuf0 (F := Ideal) c hbM0_0) (Q : HbBuf0 (F := Ideal) c hbM0_1) (R : HbBuf0 (F := Ideal) c hbM0_2)
    (z : Fin 1) (q : Fin 16) (t x : Fin 128) :
    out0_A_0 c i arg6 harg6 arg7 harg7 arg8 harg8 arg9 harg9 arg10 harg10 P Q R (ix4 z q t x)
      = Ideal.div (windowSum P Q R (i 0) (i 1) (i 2) q.val t x) (windowSum P Q R (i 0) (i 1) (i 2) 16 t x + eps) := by
  unfold out0_A_0
  rw [View.read_writes_junk_eq_canon]
  unfold kernelRun0_A
  dsimp only
  rw [View.canon_unit_zero (S := S1x16x128x128) (off := ![0, 0, 0, 0]) (by funext a; fin_cases a <;> rfl), quotient_at]
  unfold kernelRun0_A.sl.v53
  simp only [View.readCov_eq_canon']
  have whole : ∀ (j : Fin 2176), (Rect.unit (s := S2176x128) ![0, 0] ![2176, 128] inb_S2176x128_S2176x128_0_0).toLoadRect.idx (ix2 j x) = ix2 j x := fun j =>
    funext fun a => Fin.ext (match a with
      | ⟨0, _⟩ => by show 0 + 1 * j.val = j.val; omega
      | ⟨1, _⟩ => by show 0 + 1 * x.val = x.val; omega)
  have key : ∀ (q : ℕ) (j : Fin 2176), j.val = q * 128 + t.val → _ = windowSum P Q R (i 0) (i 1) (i 2) q t x := fun q j hj =>
    (loop_canon Variants.none c none i (Memref.whole main_v1) (Memref.isWhole_whole _) (Memref.whole main_v2) (Memref.isWhole_whole _) (Memref.whole main_v3) (Memref.isWhole_whole _)
      arg6 harg6 arg7 harg7 arg8 harg8 arg9 harg9 arg10 harg10 cc0_scratch4 (kernelRun0_A.sl.v0 i) (kernelRun0_A.sl.v1 i) (kernelRun0_A.sl.v4 i) (kernelRun0_A.sl.v1 i)
      (arg7.view.writes (Elt Ideal) arg7.view.junk [⟨Rect.whole S16x256x256, kernelRun0_A.sl.dma0 c i P⟩])
      (arg8.view.writes (Elt Ideal) arg8.view.junk [⟨Rect.whole S2x256x256, kernelRun0_A.sl.dma0_1 c i Q⟩])
      (arg9.view.writes (Elt Ideal) arg9.view.junk [⟨Rect.whole S1x256x256, kernelRun0_A.sl.dma0_2 c i R⟩])
      kernelRun0_A.sl.HS3_1 start_canon j x 256 (le_refl _)).trans
    (upTo_eq_windowSum P Q R _ _ _ (i 0) (i 1) (i 2) _ _ _ _
      (fun q r s => (congrFun (read_whole arg7.view _) _).trans (window_at P (off1_eq i) _ (by decide) q r s _ _ _))
      (fun q r s => (congrFun (read_whole arg8.view _) _).trans (window_at Q (off2_eq i) _ (by decide) q r s _ _ _))
      (fun q r s => (congrFun (read_whole arg9.view _) _).trans (window_at R (off3_eq i) _ (by decide) q r s _ _ _))
      (tileRow_eq (i 1)) (tileCol_eq (i 2)) (firstRow_word (i 1)) (tileCol_eq (i 2)) q t x j hj)
  rw [whole, whole]
  exact congrArg₂ Ideal.div (key q.val _ rfl) (congrArg (· + eps) (key 16 _ rfl))

end Cert.Splat

end
-- ==== Proof.Array.lean ====
/-
  The kernel's result array after the run: the tiles of the 2 × 4 × 8 grid cover it (the last tile column reaches past
  the image and is clipped), so every element is the quotient of its own tile's window sums.
-/
module

public import proofs.«01_k».proof.Proof.Block

@[expose] public section

noncomputable section

namespace Cert.Splat

open Idealize.ShloMosaic Idealize.ShloMosaic.TcCoe Cert.KernelIdeal Cert.KernelIdeal.Gen
open Idealize.ShloMosaic.Pipeline (Dat)

variable (m : (ℓ : Loc nD τ sig) → Buf (Elt Ideal) ℓ)

/-- The whole result: element `(b, q, y, x)` is the quotient of the window sums of tile `(y / 128, x / 128)` at
    target `(y % 128, x % 128)`. -/
def tiled (P : Vec Ideal S2x16x512x1152 .f32) (Q : Vec Ideal S2x2x512x1152 .f32) (R : Vec Ideal S2x1x512x1152 .f32)
    (b : Fin 2) (q : Fin 16) (y : Fin 512) (x : Fin 960) : EReal :=
  have oy : Fin 4 := ⟨y.val / 128, by omega⟩
  have ox : Fin 8 := ⟨x.val / 128, by omega⟩
  have t : Fin 128 := ⟨y.val % 128, by omega⟩
  have u : Fin 128 := ⟨x.val % 128, by omega⟩
  Ideal.div (windowSum P Q R b oy ox q.val t u) (windowSum P Q R b oy ox 16 t u + eps)

/-- At a target given by its tile and its place in the tile. -/
theorem tiled_at (P : Vec Ideal S2x16x512x1152 .f32) (Q : Vec Ideal S2x2x512x1152 .f32) (R : Vec Ideal S2x1x512x1152 .f32)
    (b : Fin 2) (q : Fin 16) (y : Fin 512) (x : Fin 960) (oy : Fin 4) (ox : Fin 8) (t u : Fin 128)
    (hy : y.val = 128 * oy.val + t.val) (hx : x.val = 128 * ox.val + u.val) :
    tiled P Q R b q y x
      = Ideal.div (windowSum P Q R b oy ox q.val t u) (windowSum P Q R b oy ox 16 t u + eps) := by
  have h1 : (⟨y.val / 128, by omega⟩ : Fin 4) = oy := Fin.ext (by show y.val / 128 = _; omega)
  have h2 : (⟨x.val / 128, by omega⟩ : Fin 8) = ox := Fin.ext (by show x.val / 128 = _; omega)
  have h3 : (⟨y.val % 128, by omega⟩ : Fin 128) = t := Fin.ext (by show y.val % 128 = _; omega)
  have h4 : (⟨x.val % 128, by omega⟩ : Fin 128) = u := Fin.ext (by show x.val % 128 = _; omega)
  unfold tiled
  dsimp only
  rw [h1, h2, h3, h4]

/-- Where the tile of a grid point sits: its batch, every channel, its tile row and column. -/
theorem tile_index : ∀ t : Fin cfg0.N, win0_0.index t = ![(grid0.coords t 0).val, 0, (grid0.coords t 1).val, (grid0.coords t 2).val] :=
  (by decide +kernel : ∀ t : Fin grid0.N, win0_0.index t = ![(grid0.coords t 0).val, 0, (grid0.coords t 1).val, (grid0.coords t 2).val])

/-- How much of a tile lies in the image. -/
theorem tile_extent : ∀ t : Fin cfg0.N, ∀ a : Fin 4, win0_0.xsize (grid0.coords t) a
      = (![1, 16, 128, min 128 (960 - 128 * (grid0.coords t 2).val)] : Fin 4 → Nat) a :=
  (by decide +kernel : ∀ t : Fin grid0.N, ∀ a : Fin 4, win0_0.xsize (grid0.coords t) a
      = (![1, 16, 128, min 128 (960 - 128 * (grid0.coords t 2).val)] : Fin 4 → Nat) a)

/-- Every tile has its grid point. -/
theorem tile_point : ∀ (b : Fin 2) (oy : Fin 4) (ox : Fin 8), ∃ t : Fin cfg0.N,
    (grid0.coords t 0).val = b.val ∧ (grid0.coords t 1).val = oy.val ∧ (grid0.coords t 2).val = ox.val :=
  (by decide +kernel : ∀ (b : Fin 2) (oy : Fin 4) (ox : Fin 8), ∃ t : Fin grid0.N,
    (grid0.coords t 0).val = b.val ∧ (grid0.coords t 1).val = oy.val ∧ (grid0.coords t 2).val = ox.val)

/-- Each grid point's write-back is its tile of `tiled`. -/
theorem flushed_eq (c : Dev nD) (t : Fin cfg0.N) :
    (dats m 0 c).flushed 0 t = ((cfg0.win 0).blk t).view.read (Elt Ideal)
      (fun i : S2x16x512x960.Idx => tiled (V m c main_v1) (V m c main_v2) (V m c main_v3) (i 0) (i 1) (i 2) (i 3)) := by
  rw [Cert.KernelIdeal.Value.flushed0_A]
  funext y
  have hx := tile_extent t
  have l0 : (y 0).val < 1 := lt_of_lt_of_eq (y 0).isLt (hx 0)
  have l1 : (y 1).val < 16 := lt_of_lt_of_eq (y 1).isLt (hx 1)
  have l2 : (y 2).val < 128 := lt_of_lt_of_eq (y 2).isLt (hx 2)
  have l3 : (y 3).val < 128 := lt_of_lt_of_le (lt_of_lt_of_eq (y 3).isLt (hx 3)) (Nat.min_le_left _ _)
  have e : ∀ a : Fin 4, ((win0_0.rect t).emb y a : Nat) = win0_0.index t a * win0_0.size a + y a := fun a =>
    Pipeline.Window.rect_emb_val win0_0 t y a
  have e0 : ((win0_0.rect t).emb y 0 : Nat) = (grid0.coords t 0).val := by
    rw [e 0, tile_index]; show (grid0.coords t 0).val * 1 + (y 0).val = _; omega
  have e1 : ((win0_0.rect t).emb y 1 : Nat) = (y 1).val := by
    rw [e 1, tile_index]; show 0 * 16 + (y 1).val = _; omega
  have e2 : ((win0_0.rect t).emb y 2 : Nat) = 128 * (grid0.coords t 1).val + (y 2).val := by
    rw [e 2, tile_index]; show (grid0.coords t 1).val * 128 + (y 2).val = _; omega
  have e3 : ((win0_0.rect t).emb y 3 : Nat) = 128 * (grid0.coords t 2).val + (y 3).val := by
    rw [e 3, tile_index]; show (grid0.coords t 2).val * 128 + (y 3).val = _; omega
  have key : ∀ f : S1x16x128x128.Idx → EReal, (win0_0.cut (grid0.coords t) f : _) y
      = f (ValueIdx.ix4 ⟨(y 0).val, l0⟩ ⟨(y 1).val, l1⟩ ⟨(y 2).val, l2⟩ ⟨(y 3).val, l3⟩) := fun f =>
    congrArg f (funext fun a => Fin.ext (match a with
    | ⟨0, _⟩ => rfl
    | ⟨1, _⟩ => rfl
    | ⟨2, _⟩ => rfl
    | ⟨3, _⟩ => rfl))
  refine (key _).trans ?_
  refine (block_at c _ _ _ _ _ _ _ _ _ _ _ _ _ _ _ _ _ _).trans ?_
  have g0 : ((win0_0.rect t).emb y 0 : Fin 2) = grid0.coords t 0 := Fin.ext e0
  have g1 : ((win0_0.rect t).emb y 1 : Fin 16) = ⟨(y 1).val, l1⟩ := Fin.ext e1
  refine (tiled_at _ _ _ _ _ _ _ _ _ _ _ e2 e3).symm.trans ?_
  exact congrArg₂ (fun (b : Fin 2) (q : Fin 16) => tiled (V m c main_v1) (V m c main_v2) (V m c main_v3) b q
    ((win0_0.rect t).emb y 2) ((win0_0.rect t).emb y 3)) g0.symm g1.symm

/-- The result array after the run. -/
theorem result_array (c : Dev nD) :
    (dats m 0 c).arrAt 0 cfg0.N
      = (fun i : S2x16x512x960.Idx => tiled (V m c main_v1) (V m c main_v2) (V m c main_v3) (i 0) (i 1) (i 2) (i 3)) := by
  refine Dat.arrAt_eq_of_cover (dats m 0 c) 0 _ (fun t _ => flushed_eq m c t) fun i => ?_
  have h0 : (i 0).val < 2 := (i 0).isLt
  have h1 : (i 1).val < 16 := (i 1).isLt
  have h2 : (i 2).val < 512 := (i 2).isLt
  have h3 : (i 3).val < 960 := (i 3).isLt
  obtain ⟨t, t0, t1, t2⟩ := tile_point ⟨(i 0).val, h0⟩ ⟨(i 2).val / 128, by omega⟩ ⟨(i 3).val / 128, by omega⟩
  refine ⟨t, flush0_0 t, ?_⟩
  have hx := tile_extent t
  show i ∈ ((View.whole main_v4).slice (win0_0.rect t)).set
  rw [View.set_slice_whole, Rect.mem_set_unit]
  intro a
  have hx := tile_extent t a
  have hi := congrFun (tile_index t) a
  show win0_0.index t a * win0_0.size a ≤ (i a : Nat)
    ∧ (i a : Nat) < win0_0.index t a * win0_0.size a + win0_0.xsize (grid0.coords t) a
  rw [hx, hi]
  simp only at t0 t1 t2
  rw [t0, t1, t2]
  match a with
  | ⟨0, _⟩ => show (i 0).val * 1 ≤ (i 0).val ∧ (i 0).val < (i 0).val * 1 + 1; omega
  | ⟨1, _⟩ => show 0 * 16 ≤ (i 1).val ∧ (i 1).val < 0 * 16 + 16; omega
  | ⟨2, _⟩ => show (i 2).val / 128 * 128 ≤ (i 2).val ∧ (i 2).val < (i 2).val / 128 * 128 + 128; omega
  | ⟨3, _⟩ =>
    show (i 3).val / 128 * 128 ≤ (i 3).val
      ∧ (i 3).val < (i 3).val / 128 * 128 + min 128 (960 - 128 * ((i 3).val / 128))
    omega

end Cert.Splat

end
-- ==== Proof.Hat.lean ====
/-
  The hat weight of a source whose flow is at most 64 in magnitude: its reach along an axis, its value at whole landing
  coordinates, and the whole image's sum for one target.
-/
module

public import proofs.«01_k».proof.Proof.Payload

@[expose] public section

noncomputable section

namespace Cert.Splat

open Idealize.ShloMosaic

theorem fl_coe (r : ℝ) : fl (r : EReal) = zc ⌊r⌋ := rfl

/-- A flow of at most 64 in magnitude is a real number from -64 to 64. -/
theorem real_of_abs_le {f : EReal} (h : max f (-f) ≤ zc 64) : ∃ r : ℝ, f = (r : EReal) ∧ -64 ≤ r ∧ r ≤ 64 := by
  obtain ⟨h1, h2⟩ := max_le_iff.mp h
  unfold zc at h1 h2
  induction f using EReal.rec with
  | bot => exact absurd (h2 : (⊤ : EReal) ≤ _) (not_le.mpr (EReal.coe_lt_top _))
  | top => exact absurd h1 (not_le.mpr (EReal.coe_lt_top _))
  | coe r =>
    refine ⟨r, rfl, ?_, ?_⟩
    · rw [← EReal.coe_neg, EReal.coe_le_coe_iff] at h2; push_cast at h2; linarith
    · rw [EReal.coe_le_coe_iff] at h1; push_cast at h1; linarith

/-- The hat weight of a source landing at a real number, at a whole coordinate. -/
theorem hat_coe (r : ℝ) (t : ℤ) :
    hat (r : EReal) (zc t) = (if ⌊r⌋ = t then ((1 - (r - ⌊r⌋) : ℝ) : EReal) else 0)
      + (if ⌊r⌋ + 1 = t then ((r - ⌊r⌋ : ℝ) : EReal) else 0) := by
  unfold hat
  rw [fl_coe, one_eq_zc, zc_add]
  simp only [zc_inj]
  congr 1
  · unfold zc; norm_cast

theorem add_zc_coe (r : ℝ) (n : ℤ) : (r : EReal) + zc n = ((r + n : ℝ) : EReal) := by
  unfold zc; rw [← EReal.coe_add]

/-- A source reaches no target further than 64 away from it. -/
theorem hat_far {f : EReal} (h : max f (-f) ≤ zc 64) {s t : ℤ} (far : t < s - 64 ∨ s + 64 < t) :
    hat (f + zc s) (zc t) = 0 := by
  obtain ⟨r, rfl, h1, h2⟩ := real_of_abs_le h
  rw [add_zc_coe, hat_coe, Int.floor_add_intCast]
  have l1 : -64 ≤ ⌊r⌋ := Int.le_floor.mpr (by push_cast; linarith)
  have l2 : ⌊r⌋ ≤ 64 := Int.floor_le_iff.mpr (by push_cast; linarith)
  rw [if_neg (by omega), zero_add]
  by_cases e : ⌊r⌋ + s + 1 = t
  · have f : (64 : ℝ) ≤ r := by
      have := Int.floor_le r
      have k : ⌊r⌋ = 64 := by omega
      rw [k] at this
      exact_mod_cast this
    have k : ⌊r⌋ = 64 := by omega
    have g : r = 64 := le_antisymm h2 f
    rw [if_pos e, k, g]
    have z : ((64 : ℝ) + (s : ℝ)) - (((64 : ℤ) + s : ℤ) : ℝ) = 0 := by push_cast; ring
    rw [z]
    rfl
  · rw [if_neg e]

/-- A source landing at a whole coordinate reaches no other. -/
theorem hat_whole {s t : ℤ} (h : s ≠ t) : hat (zc 0 + zc s) (zc t) = 0 := by
  rw [zc_add, zero_add]
  show hat ((s : ℝ) : EReal) (zc t) = 0
  rw [hat_coe, Int.floor_intCast, if_neg h, sub_self]
  simp

/-- A sum over a stretch of indices outside of which the summand vanishes is the sum over all of them. -/
theorem sum_stretch {n k o : ℕ} (ho : o + k ≤ n) (F : Fin n → EReal)
    (hF : ∀ i : Fin n, (i.val < o ∨ o + k ≤ i.val) → F i = 0) :
    ∑ r : Fin k, F ⟨o + r.val, by omega⟩ = ∑ i : Fin n, F i := by
  refine Fintype.sum_of_injective (fun r : Fin k => (⟨o + r.val, by omega⟩ : Fin n)) ?_ _ _ ?_ (fun _ => rfl)
  · intro a b hab
    have := congrArg Fin.val hab
    exact Fin.ext (by simpa using this)
  · intro i hi
    apply hF
    by_contra hc
    exact hi ⟨⟨i.val - o, by omega⟩, Fin.ext (by show o + (i.val - o) = _; omega)⟩

/-- The whole image's sum for channel `q` at the target `(y, x)`: every source's amount times its two hat weights. Of
    one batch, `v` is the channel's values, `fx` and `fy` the flow, `e` the metric. -/
def splat (v fx fy e : Fin 512 → Fin 960 → EReal) (q : ℕ) (y : Fin 512) (x : Fin 960) : EReal :=
  ∑ sy : Fin 512, ∑ sx : Fin 960,
    amount (v sy sx) (e sy sx) q * hat (fy sy sx + zc sy.val) (zc y.val) * hat (fx sy sx + zc sx.val) (zc x.val)

/-- One element of the splatted image: the channel's sum over the weights' sum. -/
def image (X : Fin 16 → Fin 512 → Fin 960 → EReal) (fx fy e : Fin 512 → Fin 960 → EReal)
    (q : Fin 16) (y : Fin 512) (x : Fin 960) : EReal :=
  Ideal.div (splat (X q) fx fy e q.val y x) (splat (fun _ _ => 0) fx fy e 16 y x + eps)

end Cert.Splat

end
-- ==== Proof.Padding.lean ====
/-
  What the kernel reads: image, flow and metric widened by 64 columns on the left and 128 on the right.
-/
module

public import proofs.«01_k».proof.Proof.Array
public import proofs.«01_k».proof.Proof.Hat
public import Idealize.ShloMosaic.Lib.KernelVsHost

@[expose] public section

noncomputable section

namespace Cert.Splat

open Idealize.ShloMosaic Idealize.ShloMosaic.TcCoe Cert.KernelIdeal Cert.KernelIdeal.Gen

variable (m : (ℓ : Loc nD τ sig) → Buf (Elt Ideal) ℓ)

/-- The widened image. -/
theorem image_widened (c : Dev nD) :
    V m c main_v1 = pad S2x16x512x1152 ![0, 0, 0, 64] ![0, 0, 0, 128] ![0, 0, 0, 0] (m (c.tc.loc main_arg0) : Vec Ideal S2x16x512x960 .f32)
      (sitofp (F := Ideal) .f32 (constantI S_ 32 0#32) : Vec Ideal S_ .f32) pads_S2x16x512x960_S2x16x512x1152_000_000_000_641280 h_S_ := by
  dsimp only [V, hostOps0, hostOps0_1, hostOps0_2, hostOps0_3, hostOps0_4, hostOps0_5]
  simp only [List.flatten_cons, List.flatten_nil, List.append_nil, List.cons_append, List.nil_append]
  after_results
  rfl

/-- The widened flow. -/
theorem flow_widened (c : Dev nD) :
    V m c main_v2 = pad S2x2x512x1152 ![0, 0, 0, 64] ![0, 0, 0, 128] ![0, 0, 0, 0] (m (c.tc.loc main_arg1) : Vec Ideal S2x2x512x960 .f32)
      (sitofp (F := Ideal) .f32 (constantI S_ 32 0#32) : Vec Ideal S_ .f32) pads_S2x2x512x960_S2x2x512x1152_000_000_000_641280 h_S_ := by
  dsimp only [V, hostOps0, hostOps0_1, hostOps0_2, hostOps0_3, hostOps0_4, hostOps0_5]
  simp only [List.flatten_cons, List.flatten_nil, List.append_nil, List.cons_append, List.nil_append]
  after_results
  rfl

/-- The widened metric. -/
theorem metric_widened (c : Dev nD) :
    V m c main_v3 = pad S2x1x512x1152 ![0, 0, 0, 64] ![0, 0, 0, 128] ![0, 0, 0, 0] (m (c.tc.loc main_arg2) : Vec Ideal S2x1x512x960 .f32)
      (constant (F := Ideal) S_ .f32 0xC61C4000#32) pads_S2x1x512x960_S2x1x512x1152_000_000_000_641280 h_S_ := by
  dsimp only [V, hostOps0, hostOps0_1, hostOps0_2, hostOps0_3, hostOps0_4, hostOps0_5]
  simp only [List.flatten_cons, List.flatten_nil, List.append_nil, List.cons_append, List.nil_append]
  after_results
  rfl

/-- An element of an array widened by 64 and 128 columns, inside: the array's own. -/
theorem widened_inside {C : Nat} (A : (⟨4, ![2, C, 512, 960]⟩ : Shape).Idx → EReal) (v : Vec Ideal S_ .f32)
    (h hu) (b : Fin 2) (q : Fin C) (y : Fin 512) (x : Fin 1152) (lo : 64 ≤ x.val) (hi : x.val < 1024) :
    pad (⟨4, ![2, C, 512, 1152]⟩ : Shape) ![0, 0, 0, 64] ![0, 0, 0, 128] ![0, 0, 0, 0] A v h hu (ix4 b q y x)
      = A (ix4 b q y ⟨x.val - 64, by omega⟩) := by
  refine pad_apply_of_inside _ _ _ A v h hu _ _ fun a => ?_
  match a with
  | ⟨0, _⟩ => show b.val = 0 + b.val * 1; omega
  | ⟨1, _⟩ => show q.val = 0 + q.val * 1; omega
  | ⟨2, _⟩ => show y.val = 0 + y.val * 1; omega
  | ⟨3, _⟩ => show x.val = 64 + (x.val - 64) * 1; omega

/-- Outside: the filling value. -/
theorem widened_outside {C : Nat} (A : (⟨4, ![2, C, 512, 960]⟩ : Shape).Idx → EReal) (v : Vec Ideal S_ .f32)
    (h hu) (b : Fin 2) (q : Fin C) (y : Fin 512) (x : Fin 1152) (out : x.val < 64 ∨ 1024 ≤ x.val) :
    pad (⟨4, ![2, C, 512, 1152]⟩ : Shape) ![0, 0, 0, 64] ![0, 0, 0, 128] ![0, 0, 0, 0] A v h hu (ix4 b q y x)
      = v (Shape.Idx.first hu) := by
  refine pad_apply_of_not_inside _ _ _ A v h hu _ (3 : Fin 4) ?_
  show ¬(64 ≤ x.val ∧ (x.val - 64) % 1 = 0 ∧ (x.val - 64) / 1 < 960)
  omega

end Cert.Splat

end
-- ==== Proof.Whole.lean ====
/-
  A tile's window holds every source that reaches the tile: the window's sum is the whole image's.
-/
module

public import proofs.«01_k».proof.Proof.Padding

@[expose] public section

noncomputable section

namespace Cert.Splat

open Idealize.ShloMosaic Idealize.ShloMosaic.TcCoe Cert.KernelIdeal Cert.KernelIdeal.Gen

/-- One source's term of a window's sum, over the widened columns. -/
def wideTerm (P : Vec Ideal S2x16x512x1152 .f32) (Q : Vec Ideal S2x2x512x1152 .f32) (R : Vec Ideal S2x1x512x1152 .f32)
    (b : Fin 2) (q : ℕ) (y : Fin 512) (x : Fin 960) (sy : Fin 512) (sx : Fin 1152) : EReal :=
  amount (chan P b q sy sx) (R (ix4 b 0 sy sx)) q * hat (Q (ix4 b 1 sy sx) + zc sy.val) (zc y.val)
    * hat (Q (ix4 b 0 sy sx) + zc ((sx.val : ℤ) - 64)) (zc x.val)

variable (X : Vec Ideal S2x16x512x960 .f32) (Fl : Vec Ideal S2x2x512x960 .f32) (Me : Vec Ideal S2x1x512x960 .f32)
  {P : Vec Ideal S2x16x512x1152 .f32} {Q : Vec Ideal S2x2x512x1152 .f32} {R : Vec Ideal S2x1x512x1152 .f32}
  (v : Vec Ideal S_ .f32)

/-- With the widened arrays, in a tile: the window's sum is the whole image's, every flow being at most 64. -/
theorem windowSum_eq
    (hP : P = pad S2x16x512x1152 ![0, 0, 0, 64] ![0, 0, 0, 128] ![0, 0, 0, 0] X
      (sitofp (F := Ideal) .f32 (constantI S_ 32 0#32) : Vec Ideal S_ .f32) pads_S2x16x512x960_S2x16x512x1152_000_000_000_641280 h_S_)
    (hQ : Q = pad S2x2x512x1152 ![0, 0, 0, 64] ![0, 0, 0, 128] ![0, 0, 0, 0] Fl
      (sitofp (F := Ideal) .f32 (constantI S_ 32 0#32) : Vec Ideal S_ .f32) pads_S2x2x512x960_S2x2x512x1152_000_000_000_641280 h_S_)
    (hR : R = pad S2x1x512x1152 ![0, 0, 0, 64] ![0, 0, 0, 128] ![0, 0, 0, 0] Me
      v pads_S2x1x512x960_S2x1x512x1152_000_000_000_641280 h_S_)
    (small : ∀ i, max (Fl i) (-(Fl i)) ≤ zc 64)
    (b : Fin 2) (oy : Fin 4) (ox : Fin 8) (q : ℕ) (t u : Fin 128) (y : Fin 512) (x : Fin 960)
    (hy : y.val = 128 * oy.val + t.val) (hx : x.val = 128 * ox.val + u.val) :
    windowSum P Q R b oy ox q t u
      = splat (fun sy sx => chan X b q sy sx) (fun sy sx => Fl (ix4 b 0 sy sx)) (fun sy sx => Fl (ix4 b 1 sy sx))
          (fun sy sx => Me (ix4 b 0 sy sx)) q y x := by
  -- a source's term over the widened columns, inside the image and outside of it
  have inside : ∀ (sy : Fin 512) (sx : Fin 1152) (lo : 64 ≤ sx.val) (hi : sx.val < 1024),
      wideTerm P Q R b q y x sy sx
        = amount (chan X b q sy ⟨sx.val - 64, by omega⟩) (Me (ix4 b 0 sy ⟨sx.val - 64, by omega⟩)) q
          * hat (Fl (ix4 b 1 sy ⟨sx.val - 64, by omega⟩) + zc sy.val) (zc y.val)
          * hat (Fl (ix4 b 0 sy ⟨sx.val - 64, by omega⟩) + zc ((sx.val : ℤ) - 64)) (zc x.val) := by
    intro sy sx lo hi
    have c : chan P b q sy sx = chan X b q sy ⟨sx.val - 64, by omega⟩ := by
      unfold chan
      by_cases h : q < 16
      · rw [dif_pos h, dif_pos h, hP]; exact widened_inside X _ _ _ b _ sy sx lo hi
      · rw [dif_neg h, dif_neg h]
    have d : ∀ k : Fin 2, Q (ix4 b k sy sx) = Fl (ix4 b k sy ⟨sx.val - 64, by omega⟩) := fun k => by
      rw [hQ]; exact widened_inside Fl _ _ _ b k sy sx lo hi
    have e : R (ix4 b 0 sy sx) = Me (ix4 b 0 sy ⟨sx.val - 64, by omega⟩) := by
      rw [hR]; exact widened_inside Me _ _ _ b 0 sy sx lo hi
    unfold wideTerm
    rw [c, d, d, e]
  have outside : ∀ (sy : Fin 512) (sx : Fin 1152), (sx.val < 64 ∨ 1024 ≤ sx.val) → wideTerm P Q R b q y x sy sx = 0 := by
    intro sy sx out
    have d : Q (ix4 b 0 sy sx) = zc 0 := by
      rw [hQ]; exact widened_outside Fl _ _ _ b 0 sy sx out
    unfold wideTerm
    rw [d, hat_whole (by omega), mul_zero]
  have farCol : ∀ (sy : Fin 512) (sx : Fin 1152), (sx.val < 128 * ox.val ∨ 128 * ox.val + 256 ≤ sx.val) →
      wideTerm P Q R b q y x sy sx = 0 := by
    intro sy sx far
    by_cases out : sx.val < 64 ∨ 1024 ≤ sx.val
    · exact outside sy sx out
    · rw [inside sy sx (by omega) (by omega), hat_far (s := (sx.val : ℤ) - 64) (t := x.val) (small _) (by omega), mul_zero]
  have farRow : ∀ (sy : Fin 512) (sx : Fin 1152), (sy.val < firstRow oy.val ∨ firstRow oy.val + 256 ≤ sy.val) →
      wideTerm P Q R b q y x sy sx = 0 := by
    intro sy sx far
    by_cases out : sx.val < 64 ∨ 1024 ≤ sx.val
    · exact outside sy sx out
    · unfold firstRow at far
      rw [inside sy sx (by omega) (by omega), hat_far (s := sy.val) (t := y.val) (small _) (by omega), mul_zero, zero_mul]
  trans ∑ sy : Fin 512, ∑ sx : Fin 1152, wideTerm P Q R b q y x sy sx
  · have cols : ∀ sy : Fin 512, ∑ s : Fin 256, wideTerm P Q R b q y x sy ⟨128 * ox.val + s.val, by omega⟩
        = ∑ sx : Fin 1152, wideTerm P Q R b q y x sy sx := fun sy =>
      sum_stretch (by omega) _ (farCol sy)
    rw [← sum_stretch (k := 256) (o := firstRow oy.val) (by have := firstRow_le oy.val; omega)
      (fun sy => ∑ sx : Fin 1152, wideTerm P Q R b q y x sy sx)
      (fun sy far => Finset.sum_eq_zero fun sx _ => farRow sy sx far)]
    refine Finset.sum_congr rfl fun r _ => ?_
    rw [← cols]
    refine Finset.sum_congr rfl fun s _ => ?_
    unfold wideTerm
    rw [hy, hx]
  · refine Finset.sum_congr rfl fun sy _ => ?_
    rw [← sum_stretch (k := 960) (o := 64) (by omega) (fun sx => wideTerm P Q R b q y x sy sx)
      (fun sx far => outside sy sx (by omega))]
    refine Finset.sum_congr rfl fun sx _ => ?_
    have s0 : (⟨64 + sx.val - 64, by omega⟩ : Fin 960) = sx := Fin.ext (by show 64 + sx.val - 64 = _; omega)
    have s1 : (((64 + sx.val : ℕ) : ℤ) - 64) = (sx.val : ℤ) := by omega
    rw [inside sy _ (by show 64 ≤ 64 + sx.val; omega) (by show 64 + sx.val < 1024; omega)]
    dsimp only
    rw [s0, s1]

variable (m : (ℓ : Loc nD τ sig) → Buf (Elt Ideal) ℓ)

/-- The kernel's result array: the splatted image of its three arguments. -/
theorem result_image (c : Dev nD) (hX : m (c.tc.loc main_arg0) = X) (hF : m (c.tc.loc main_arg1) = Fl)
    (hM : m (c.tc.loc main_arg2) = Me) (small : ∀ i, max (Fl i) (-(Fl i)) ≤ zc 64) :
    (dats m 0 c).arrAt 0 cfg0.N
      = (fun i : S2x16x512x960.Idx => image (fun q sy sx => X (ix4 (i 0) q sy sx)) (fun sy sx => Fl (ix4 (i 0) 0 sy sx))
          (fun sy sx => Fl (ix4 (i 0) 1 sy sx)) (fun sy sx => Me (ix4 (i 0) 0 sy sx)) (i 1) (i 2) (i 3)) := by
  have key : ∀ (b : Fin 2) (q : Fin 16) (y : Fin 512) (x : Fin 960),
      tiled (V m c main_v1) (V m c main_v2) (V m c main_v3) b q y x
        = image (fun q sy sx => X (ix4 b q sy sx)) (fun sy sx => Fl (ix4 b 0 sy sx))
            (fun sy sx => Fl (ix4 b 1 sy sx)) (fun sy sx => Me (ix4 b 0 sy sx)) q y x := by
    intro b q y x
    have hy : y.val = 128 * (⟨y.val / 128, by omega⟩ : Fin 4).val + (⟨y.val % 128, by omega⟩ : Fin 128).val := by
      show y.val = 128 * (y.val / 128) + y.val % 128; omega
    have hx : x.val = 128 * (⟨x.val / 128, by omega⟩ : Fin 8).val + (⟨x.val % 128, by omega⟩ : Fin 128).val := by
      show x.val = 128 * (x.val / 128) + x.val % 128; omega
    have hP := image_widened m c
    have hQ := flow_widened m c
    have hR := metric_widened m c
    rw [hX] at hP
    rw [hF] at hQ
    rw [hM] at hR
    have e1 : (fun sy sx => chan X b q.val sy sx) = fun sy sx => X (ix4 b q sy sx) := by
      funext sy sx; unfold chan; rw [dif_pos q.isLt]
    have e2 : (fun sy sx => chan X b 16 sy sx) = fun _ _ => 0 := by
      funext sy sx; unfold chan; rw [dif_neg (by omega)]
    rw [tiled_at _ _ _ b q y x _ _ _ _ hy hx, windowSum_eq X Fl Me _ hP hQ hR small _ _ _ _ _ _ y x hy hx,
      windowSum_eq X Fl Me _ hP hQ hR small _ _ _ _ _ _ y x hy hx, e1, e2]
    rfl
  rw [result_array]
  funext i
  exact key (i 0) (i 1) (i 2) (i 3)

end Cert.Splat

end
-- ==== Proof.Stages.lean ====
/-
  The reference's stages read at an element: landing coordinates, the rows it scatters and the index words it scatters
  them by, for each of the four corners.
-/
module

public import proofs.«01_k».proof.Proof.Hat
public import proofs.«01_k».proof.Proof.Gen.ReferenceIdeal.Read

@[expose] public section

noncomputable section

namespace Cert.Splat

open Idealize.ShloMosaic Cert.ReferenceIdeal Cert.ReferenceIdeal.Gen Cert.ReferenceIdeal.Read

/-- The row of the flattened image that holds pixel `(y, x)` of batch `b`. -/
def flat (b : Fin 4) (y : Fin 512) (x : Fin 960) : Fin 1966080 := ⟨(b.val * 512 + y.val) * 960 + x.val, by omega⟩

/-- Whether the corner `(xi, yi)` lies in the image, as the reference computes it. -/
def cornerMask (xi yi : BitVec 32) : BitVec 1 :=
  IntOp.andi (IntOp.andi (IntOp.andi (IntOp.cmpi .sge xi 0#32) (IntOp.cmpi .slt xi 960#32)) (IntOp.cmpi .sge yi 0#32))
    (IntOp.cmpi .slt yi 512#32)

/-- The row of the corner `(xi, yi)`, clipped into the image. -/
def clippedRow (b : Fin 4) (xi yi : BitVec 32) : BitVec 32 :=
  IntOp.addi (IntOp.addi (IntOp.muli (BitVec.ofNat 32 b.val) 491520#32)
    (IntOp.muli (IntOp.minsi 511#32 (IntOp.maxsi 0#32 yi)) 960#32)) (IntOp.minsi 959#32 (IntOp.maxsi 0#32 xi))

/-- The row's index word: a negative one counts from the end. -/
def cornerRow (b : Fin 4) (xi yi : BitVec 32) : BitVec 32 :=
  Scalar.select (IntOp.cmpi .slt (clippedRow b xi yi) 0#32) (IntOp.addi (clippedRow b xi yi) 1966080#32) (clippedRow b xi yi)

variable (x0 : Vec Ideal S4x16x512x960 .f32) (x1 : Vec Ideal S4x2x512x960 .f32) (x2 : Vec Ideal S4x1x512x960 .f32)
  (b : Fin 4) (y : Fin 512) (x : Fin 960)

theorem flat_batch : (⟨(flat b y x).val / 491520, by have := (flat b y x).isLt; omega⟩ : Fin 4) = b :=
  Fin.ext (by show ((b.val * 512 + y.val) * 960 + x.val) / 491520 = _; omega)

theorem flat_div : (flat b y x).val / 491520 = b.val := congrArg Fin.val (flat_batch b y x)

theorem flat_row : (⟨(flat b y x).val / 960 % 512, by omega⟩ : Fin 512) = y :=
  Fin.ext (by show ((b.val * 512 + y.val) * 960 + x.val) / 960 % 512 = _; omega)

theorem flat_col : (⟨(flat b y x).val % 960, by omega⟩ : Fin 960) = x :=
  Fin.ext (by show ((b.val * 512 + y.val) * 960 + x.val) % 960 = _; omega)

theorem sitofp_nat {n : ℕ} (h : n < 2 ^ 31) : (FloatOps.sitofp .f32 (BitVec.ofNat 32 n) : Ideal .f32) = zc n := by
  rw [sitofp_eq, toInt_ofNat32 h]

/-- The horizontal landing coordinate. -/
theorem landX_at : val_main_v10 (F := Ideal) x1 (ix3 b y x) = zc x.val + x1 (ix4 b 0 y x) := by
  pointwise [val_main_v10, val_main_v9, val_main_v8, val_main_v7, val_main_v6, val_main_v4]
  rw [sitofp_nat (by omega)]

/-- The vertical landing coordinate. -/
theorem landY_at : val_main_v15 (F := Ideal) x1 (ix3 b y x) = zc y.val + x1 (ix4 b 1 y x) := by
  pointwise [val_main_v15, val_main_v14, val_main_v13, val_main_v12, val_main_v11, val_main_v5]
  rw [sitofp_nat (by omega)]

/-- A pixel's row of amounts: the sixteen channels' and the weight's. -/
theorem amount_at (c : Fin 17) :
    val_main_v31 (F := Ideal) x0 x2 (ix2 (flat b y x) c)
      = amount (if h : c.val < 16 then x0 (ix4 b ⟨c.val, h⟩ y x) else 0) (x2 (ix4 b 0 y x)) c.val := by
  pointwise [val_main_v31, val_main_v30, val_main_v3, val_main_v2, val_main_v1, val_main_v0]
  unfold amount
  simp only [flat_batch, flat_row, flat_col]
  by_cases h : c.val < 16
  · simp only [h, dif_pos, if_pos]
  · have hc : (⟨c.val - 16, by omega⟩ : Fin 1) = 0 := Subsingleton.elim _ _
    simp only [h, dite_false, if_false, hc]

/-- The first corner's rows: the pixel's amounts times the corner's weight, none outside the image. -/
theorem corner1_rows (c : Fin 17) :
    val_main_v64 (F := Ideal) x0 x1 x2 (ix2 (flat b y x) c)
      = val_main_v31 (F := Ideal) x0 x2 (ix2 (flat b y x) c)
        * Scalar.select (cornerMask (val_main_v18 (F := Ideal) x1 (ix3 b y x)) (val_main_v19 (F := Ideal) x1 (ix3 b y x)))
            (val_main_v37 (F := Ideal) x1 (ix3 b y x)) 0 := by
  pointwise [
    val_main_c_4, val_main_v41, val_main_v42, val_main_c_5, val_main_v43, val_main_v44, val_main_v45, val_main_c_6,
    val_main_v46, val_main_v47, val_main_v48, val_main_c_7, val_main_v49, val_main_v50, val_main_v51, val_main_c_8,
    val_main_c_9, val_main_call0_v0, val_main_call0_v1, val_main_call0_v2, val_main_call0_v3, val_main_call0_v4,
    val_main_v52, val_main_c_10, val_main_v53, val_main_v54, val_main_v55, val_main_v56, val_main_c_11,
    val_main_c_12, val_main_call1_v0, val_main_call1_v1, val_main_call1_v2, val_main_call1_v3, val_main_call1_v4,
    val_main_v57, val_main_v58, val_main_v59, val_main_cst_13, val_main_v60, val_main_v61, val_main_v62,
    val_main_v63, val_main_v64, val_main_c_14, val_main_v65, val_main_v66, val_main_c_15, val_main_v67, val_main_v68,
    val_main_v69, val_main_v70]
  simp only [flat_batch, flat_row, flat_col]
  rfl

/-- The first corner's index words. -/
theorem corner1_word :
    val_main_v70 (F := Ideal) x1 (ix2 (flat b y x) 0)
      = cornerRow b (val_main_v18 (F := Ideal) x1 (ix3 b y x)) (val_main_v19 (F := Ideal) x1 (ix3 b y x)) := by
  pointwise [
    val_main_v32, val_main_v33, val_main_c_2, val_main_v34, val_main_v35, val_main_c_4, val_main_v41, val_main_v42,
    val_main_c_5, val_main_v43, val_main_v44, val_main_v45, val_main_c_6, val_main_v46, val_main_v47, val_main_v48,
    val_main_c_7, val_main_v49, val_main_v50, val_main_v51, val_main_c_8, val_main_c_9, val_main_call0_v0,
    val_main_call0_v1, val_main_call0_v2, val_main_call0_v3, val_main_call0_v4, val_main_v52, val_main_c_10,
    val_main_v53, val_main_v54, val_main_v55, val_main_v56, val_main_c_11, val_main_c_12, val_main_call1_v0,
    val_main_call1_v1, val_main_call1_v2, val_main_call1_v3, val_main_call1_v4, val_main_v57, val_main_v58,
    val_main_v59, val_main_cst_13, val_main_v60, val_main_v61, val_main_v62, val_main_v63, val_main_v64,
    val_main_c_14, val_main_v65, val_main_v66, val_main_c_15, val_main_v67, val_main_v68, val_main_v69, val_main_v70]
  simp only [flat_batch, flat_row, flat_col]
  simp only [flat_div, id_eq, constantI]
  rfl

/-- The second corner's rows: the pixel's amounts times the corner's weight, none outside the image. -/
theorem corner2_rows (c : Fin 17) :
    val_main_v95 (F := Ideal) x0 x1 x2 (ix2 (flat b y x) c)
      = val_main_v31 (F := Ideal) x0 x2 (ix2 (flat b y x) c)
        * Scalar.select (cornerMask (val_main_v21 (F := Ideal) x1 (ix3 b y x)) (val_main_v19 (F := Ideal) x1 (ix3 b y x)))
            (val_main_v38 (F := Ideal) x1 (ix3 b y x)) 0 := by
  pointwise [
    val_main_c_16, val_main_v72, val_main_v73, val_main_c_17, val_main_v74, val_main_v75, val_main_v76,
    val_main_c_18, val_main_v77, val_main_v78, val_main_v79, val_main_c_19, val_main_v80, val_main_v81, val_main_v82,
    val_main_c_20, val_main_c_21, val_main_call3_v0, val_main_call3_v1, val_main_call3_v2, val_main_call3_v3,
    val_main_call3_v4, val_main_v83, val_main_c_22, val_main_v84, val_main_v85, val_main_v86, val_main_v87,
    val_main_c_23, val_main_c_24, val_main_call4_v0, val_main_call4_v1, val_main_call4_v2, val_main_call4_v3,
    val_main_call4_v4, val_main_v88, val_main_v89, val_main_v90, val_main_cst_25, val_main_v91, val_main_v92,
    val_main_v93, val_main_v94, val_main_v95, val_main_c_26, val_main_v96, val_main_v97, val_main_c_27, val_main_v98,
    val_main_v99, val_main_v100, val_main_v101]
  simp only [flat_batch, flat_row, flat_col]
  rfl

/-- The second corner's index words. -/
theorem corner2_word :
    val_main_v101 (F := Ideal) x1 (ix2 (flat b y x) 0)
      = cornerRow b (val_main_v21 (F := Ideal) x1 (ix3 b y x)) (val_main_v19 (F := Ideal) x1 (ix3 b y x)) := by
  pointwise [
    val_main_v32, val_main_v33, val_main_c_2, val_main_v34, val_main_v35, val_main_c_16, val_main_v72, val_main_v73,
    val_main_c_17, val_main_v74, val_main_v75, val_main_v76, val_main_c_18, val_main_v77, val_main_v78, val_main_v79,
    val_main_c_19, val_main_v80, val_main_v81, val_main_v82, val_main_c_20, val_main_c_21, val_main_call3_v0,
    val_main_call3_v1, val_main_call3_v2, val_main_call3_v3, val_main_call3_v4, val_main_v83, val_main_c_22,
    val_main_v84, val_main_v85, val_main_v86, val_main_v87, val_main_c_23, val_main_c_24, val_main_call4_v0,
    val_main_call4_v1, val_main_call4_v2, val_main_call4_v3, val_main_call4_v4, val_main_v88, val_main_v89,
    val_main_v90, val_main_cst_25, val_main_v91, val_main_v92, val_main_v93, val_main_v94, val_main_v95,
    val_main_c_26, val_main_v96, val_main_v97, val_main_c_27, val_main_v98, val_main_v99, val_main_v100,
    val_main_v101]
  simp only [flat_batch, flat_row, flat_col]
  simp only [flat_div, id_eq, constantI]
  rfl

/-- The third corner's rows: the pixel's amounts times the corner's weight, none outside the image. -/
theorem corner3_rows (c : Fin 17) :
    val_main_v126 (F := Ideal) x0 x1 x2 (ix2 (flat b y x) c)
      = val_main_v31 (F := Ideal) x0 x2 (ix2 (flat b y x) c)
        * Scalar.select (cornerMask (val_main_v18 (F := Ideal) x1 (ix3 b y x)) (val_main_v23 (F := Ideal) x1 (ix3 b y x)))
            (val_main_v39 (F := Ideal) x1 (ix3 b y x)) 0 := by
  pointwise [
    val_main_c_28, val_main_v103, val_main_v104, val_main_c_29, val_main_v105, val_main_v106, val_main_v107,
    val_main_c_30, val_main_v108, val_main_v109, val_main_v110, val_main_c_31, val_main_v111, val_main_v112,
    val_main_v113, val_main_c_32, val_main_c_33, val_main_call6_v0, val_main_call6_v1, val_main_call6_v2,
    val_main_call6_v3, val_main_call6_v4, val_main_v114, val_main_c_34, val_main_v115, val_main_v116, val_main_v117,
    val_main_v118, val_main_c_35, val_main_c_36, val_main_call7_v0, val_main_call7_v1, val_main_call7_v2,
    val_main_call7_v3, val_main_call7_v4, val_main_v119, val_main_v120, val_main_v121, val_main_cst_37,
    val_main_v122, val_main_v123, val_main_v124, val_main_v125, val_main_v126, val_main_c_38, val_main_v127,
    val_main_v128, val_main_c_39, val_main_v129, val_main_v130, val_main_v131, val_main_v132]
  simp only [flat_batch, flat_row, flat_col]
  rfl

/-- The third corner's index words. -/
theorem corner3_word :
    val_main_v132 (F := Ideal) x1 (ix2 (flat b y x) 0)
      = cornerRow b (val_main_v18 (F := Ideal) x1 (ix3 b y x)) (val_main_v23 (F := Ideal) x1 (ix3 b y x)) := by
  pointwise [
    val_main_v32, val_main_v33, val_main_c_2, val_main_v34, val_main_v35, val_main_c_28, val_main_v103,
    val_main_v104, val_main_c_29, val_main_v105, val_main_v106, val_main_v107, val_main_c_30, val_main_v108,
    val_main_v109, val_main_v110, val_main_c_31, val_main_v111, val_main_v112, val_main_v113, val_main_c_32,
    val_main_c_33, val_main_call6_v0, val_main_call6_v1, val_main_call6_v2, val_main_call6_v3, val_main_call6_v4,
    val_main_v114, val_main_c_34, val_main_v115, val_main_v116, val_main_v117, val_main_v118, val_main_c_35,
    val_main_c_36, val_main_call7_v0, val_main_call7_v1, val_main_call7_v2, val_main_call7_v3, val_main_call7_v4,
    val_main_v119, val_main_v120, val_main_v121, val_main_cst_37, val_main_v122, val_main_v123, val_main_v124,
    val_main_v125, val_main_v126, val_main_c_38, val_main_v127, val_main_v128, val_main_c_39, val_main_v129,
    val_main_v130, val_main_v131, val_main_v132]
  simp only [flat_batch, flat_row, flat_col]
  simp only [flat_div, id_eq, constantI]
  rfl

/-- The fourth corner's rows: the pixel's amounts times the corner's weight, none outside the image. -/
theorem corner4_rows (c : Fin 17) :
    val_main_v157 (F := Ideal) x0 x1 x2 (ix2 (flat b y x) c)
      = val_main_v31 (F := Ideal) x0 x2 (ix2 (flat b y x) c)
        * Scalar.select (cornerMask (val_main_v21 (F := Ideal) x1 (ix3 b y x)) (val_main_v23 (F := Ideal) x1 (ix3 b y x)))
            (val_main_v40 (F := Ideal) x1 (ix3 b y x)) 0 := by
  pointwise [
    val_main_c_40, val_main_v134, val_main_v135, val_main_c_41, val_main_v136, val_main_v137, val_main_v138,
    val_main_c_42, val_main_v139, val_main_v140, val_main_v141, val_main_c_43, val_main_v142, val_main_v143,
    val_main_v144, val_main_c_44, val_main_c_45, val_main_call9_v0, val_main_call9_v1, val_main_call9_v2,
    val_main_call9_v3, val_main_call9_v4, val_main_v145, val_main_c_46, val_main_v146, val_main_v147, val_main_v148,
    val_main_v149, val_main_c_47, val_main_c_48, val_main_call10_v0, val_main_call10_v1, val_main_call10_v2,
    val_main_call10_v3, val_main_call10_v4, val_main_v150, val_main_v151, val_main_v152, val_main_cst_49,
    val_main_v153, val_main_v154, val_main_v155, val_main_v156, val_main_v157, val_main_c_50, val_main_v158,
    val_main_v159, val_main_c_51, val_main_v160, val_main_v161, val_main_v162, val_main_v163]
  simp only [flat_batch, flat_row, flat_col]
  rfl

/-- The fourth corner's index words. -/
theorem corner4_word :
    val_main_v163 (F := Ideal) x1 (ix2 (flat b y x) 0)
      = cornerRow b (val_main_v21 (F := Ideal) x1 (ix3 b y x)) (val_main_v23 (F := Ideal) x1 (ix3 b y x)) := by
  pointwise [
    val_main_v32, val_main_v33, val_main_c_2, val_main_v34, val_main_v35, val_main_c_40, val_main_v134,
    val_main_v135, val_main_c_41, val_main_v136, val_main_v137, val_main_v138, val_main_c_42, val_main_v139,
    val_main_v140, val_main_v141, val_main_c_43, val_main_v142, val_main_v143, val_main_v144, val_main_c_44,
    val_main_c_45, val_main_call9_v0, val_main_call9_v1, val_main_call9_v2, val_main_call9_v3, val_main_call9_v4,
    val_main_v145, val_main_c_46, val_main_v146, val_main_v147, val_main_v148, val_main_v149, val_main_c_47,
    val_main_c_48, val_main_call10_v0, val_main_call10_v1, val_main_call10_v2, val_main_call10_v3,
    val_main_call10_v4, val_main_v150, val_main_v151, val_main_v152, val_main_cst_49, val_main_v153, val_main_v154,
    val_main_v155, val_main_v156, val_main_v157, val_main_c_50, val_main_v158, val_main_v159, val_main_c_51,
    val_main_v160, val_main_v161, val_main_v162, val_main_v163]
  simp only [flat_batch, flat_row, flat_col]
  simp only [flat_div, id_eq, constantI]
  rfl

end Cert.Splat

end
-- ==== Proof.Corner.lean ====
/-
  One corner of one pixel: the words its whole coordinates become, whether it lies in the image, and the row it adds to.
-/
module

public import proofs.«01_k».proof.Proof.Stages
public import Idealize.ShloMosaic.Lib.WordCmp

@[expose] public section

noncomputable section

namespace Cert.Splat

open Idealize.ShloMosaic Cert.ReferenceIdeal Cert.ReferenceIdeal.Gen Cert.ReferenceIdeal.Read

/-- A whole number in range, converted to a word and read back. -/
theorem fptosi_zc {n : ℤ} (lo : -2 ^ 31 ≤ n) (hi : n < 2 ^ 31) : (Ideal.fptosi 32 (zc n)).toInt = n := by
  unfold Ideal.fptosi zc
  have t : (if (0 : ℝ) ≤ (n : ℝ) then ⌊(n : ℝ)⌋ else ⌈(n : ℝ)⌉) = n := by simp
  rw [Ideal.toIntClamped_coe, BitVec.toInt_ofInt, t]
  have c : max (-((2 ^ (32 - 1) : ℕ) : ℤ)) (min (((2 ^ (32 - 1) : ℕ) : ℤ) - 1) n) = n := by norm_num; omega
  rw [c, Int.bmod_def]
  omega

/-- A small word with one added. -/
theorem toInt_succ {a : BitVec 32} (lo : -1000 ≤ a.toInt) (hi : a.toInt ≤ 10000) : (IntOp.addi a 1#32).toInt = a.toInt + 1 := by
  show (a + 1#32).toInt = _
  rw [BitVec.toInt_add]
  have : (1#32).toInt = 1 := by decide
  rw [this, Int.bmod_def]
  omega

/-- A corner outside the image. -/
theorem corner_outside {xi yi : BitVec 32} (h : ¬((0 ≤ xi.toInt ∧ xi.toInt < 960) ∧ 0 ≤ yi.toInt ∧ yi.toInt < 512)) :
    cornerMask xi yi = 0 := by
  unfold cornerMask IntOp.andi
  rw [WordCmp.cmpi_sge_eq, WordCmp.cmpi_slt_eq, WordCmp.cmpi_sge_eq, WordCmp.cmpi_slt_eq]
  have e0 : (0#32).toInt = 0 := by decide
  have e1 : (960#32).toInt = 960 := by decide
  have e2 : (512#32).toInt = 512 := by decide
  rw [e0, e1, e2]
  by_cases h1 : 0 ≤ xi.toInt <;> by_cases h2 : xi.toInt < 960 <;> by_cases h3 : 0 ≤ yi.toInt <;> by_cases h4 : yi.toInt < 512 <;>
    simp only [h1, h2, h3, h4, decide_true, decide_false] <;> first | decide | exact absurd ⟨⟨h1, h2⟩, h3, h4⟩ h

/-- A corner inside the image lies in it. -/
theorem corner_inside {xi yi : BitVec 32} (h : (0 ≤ xi.toInt ∧ xi.toInt < 960) ∧ 0 ≤ yi.toInt ∧ yi.toInt < 512) :
    cornerMask xi yi = 1 := by
  unfold cornerMask IntOp.andi
  rw [WordCmp.cmpi_sge_eq, WordCmp.cmpi_slt_eq, WordCmp.cmpi_sge_eq, WordCmp.cmpi_slt_eq]
  have e0 : (0#32).toInt = 0 := by decide
  have e1 : (960#32).toInt = 960 := by decide
  have e2 : (512#32).toInt = 512 := by decide
  rw [e0, e1, e2]
  simp only [h.1.1, h.1.2, h.2.1, h.2.2, decide_true]
  decide

/-- Its index word is the flattened position of its pixel. -/
theorem corner_row (b : Fin 4) {xi yi : BitVec 32} (h : (0 ≤ xi.toInt ∧ xi.toInt < 960) ∧ 0 ≤ yi.toInt ∧ yi.toInt < 512) :
    (cornerRow b xi yi).toInt = (b.val * 512 + yi.toInt) * 960 + xi.toInt := by
  obtain ⟨⟨h1, h2⟩, h3, h4⟩ := h
  have hx : IntOp.minsi 959#32 (IntOp.maxsi 0#32 xi) = xi := by
    unfold IntOp.minsi IntOp.maxsi BitVec.slt
    have e0 : (0#32).toInt = 0 := by decide
    have e1 : (959#32).toInt = 959 := by decide
    have i : (if decide (xi.toInt < (0#32).toInt) = true then 0#32 else xi) = xi :=
      if_neg (by rw [e0, decide_eq_true_eq]; omega)
    rw [i, if_neg (by rw [e1, decide_eq_true_eq]; omega)]
  have hy : IntOp.minsi 511#32 (IntOp.maxsi 0#32 yi) = yi := by
    unfold IntOp.minsi IntOp.maxsi BitVec.slt
    have e0 : (0#32).toInt = 0 := by decide
    have e1 : (511#32).toInt = 511 := by decide
    have i : (if decide (yi.toInt < (0#32).toInt) = true then 0#32 else yi) = yi :=
      if_neg (by rw [e0, decide_eq_true_eq]; omega)
    rw [i, if_neg (by rw [e1, decide_eq_true_eq]; omega)]
  have nx : (xi.toNat : ℤ) = xi.toInt := by have := BitVec.toInt_eq_toNat_cond xi; have := xi.isLt; split at * <;> omega
  have ny : (yi.toNat : ℤ) = yi.toInt := by have := BitVec.toInt_eq_toNat_cond yi; have := yi.isLt; split at * <;> omega
  have hr : clippedRow b xi yi = BitVec.ofNat 32 ((b.val * 512 + yi.toNat) * 960 + xi.toNat) := by
    unfold clippedRow
    rw [hx, hy]
    apply BitVec.eq_of_toNat_eq
    show (BitVec.ofNat 32 b.val * 491520#32 + yi * 960#32 + xi).toNat = _
    rw [BitVec.toNat_add, BitVec.toNat_add, BitVec.toNat_mul, BitVec.toNat_mul]
    simp only [BitVec.toNat_ofNat]
    omega
  have hs : (clippedRow b xi yi).toInt = (b.val * 512 + yi.toInt) * 960 + xi.toInt := by
    rw [hr, toInt_ofNat32 (by omega)]
    push_cast
    rw [nx, ny]
  unfold cornerRow Scalar.select
  rw [WordCmp.cmpi_slt_eq, hs]
  have e0 : (0#32).toInt = 0 := by decide
  have hd : decide ((b.val * 512 + yi.toInt) * 960 + xi.toInt < (0#32).toInt) = false := by rw [e0, decide_eq_false_iff_not]; omega
  rw [hd, if_neg (by decide), hs]

end Cert.Splat

end
-- ==== Proof.Pixel.lean ====
/-
  One pixel of the reference: its four corners together give every target the pixel's amount times its two hat weights.
-/
module

public import proofs.«01_k».proof.Proof.Corner

@[expose] public section

noncomputable section

namespace Cert.Splat

open Idealize.ShloMosaic Cert.ReferenceIdeal Cert.ReferenceIdeal.Gen Cert.ReferenceIdeal.Read

variable (x0 : Vec Ideal S4x16x512x960 .f32) (x1 : Vec Ideal S4x2x512x960 .f32) (x2 : Vec Ideal S4x1x512x960 .f32)
  (b : Fin 4) (y : Fin 512) (x : Fin 960)

/-- What a corner adds to the row of target `(y', x')` of batch `b'`: the amount `a` times the corner's weight where the
    corner is that target, nothing elsewhere. -/
theorem corner_term (a w : EReal) (xi yi : BitVec 32) (b' : Fin 4) (y' : Fin 512) (x' : Fin 960) :
    (if (cornerRow b xi yi).toInt = ((flat b' y' x').val : ℤ) then a * Scalar.select (cornerMask xi yi) w 0 else 0)
      = if b = b' ∧ yi.toInt = y'.val ∧ xi.toInt = x'.val then a * w else 0 := by
  by_cases h : (0 ≤ xi.toInt ∧ xi.toInt < 960) ∧ 0 ≤ yi.toInt ∧ yi.toInt < 512
  · rw [corner_inside h, corner_row b h]
    have e : (((b.val : ℤ) * 512 + yi.toInt) * 960 + xi.toInt = ((flat b' y' x').val : ℤ))
        ↔ (b = b' ∧ yi.toInt = y'.val ∧ xi.toInt = x'.val) := by
      show (((b.val : ℤ) * 512 + yi.toInt) * 960 + xi.toInt = (((b'.val * 512 + y'.val) * 960 + x'.val : ℕ) : ℤ)) ↔ _
      rw [Fin.ext_iff]
      omega
    simp only [e]
    rfl
  · rw [corner_outside h]
    have z : Scalar.select (0 : BitVec 1) w 0 = (0 : EReal) := rfl
    rw [z, mul_zero, ite_self, if_neg]
    rintro ⟨-, hy, hx⟩
    exact h (by omega)

/-- A pixel's landing words: the floors of its landing coordinates. -/
theorem wordX {p : ℝ} (hp : x1 (ix4 b 0 y x) = (p : EReal)) (l : -64 ≤ p) (u : p ≤ 64) :
    (val_main_v18 (F := Ideal) x1 (ix3 b y x)).toInt = ⌊p⌋ + x.val := by
  have l1 : -64 ≤ ⌊p⌋ := Int.le_floor.mpr (by push_cast; linarith)
  have l2 : ⌊p⌋ ≤ 64 := Int.floor_le_iff.mpr (by push_cast; linarith)
  show (Ideal.fptosi 32 (fl (val_main_v10 (F := Ideal) x1 (ix3 b y x)))).toInt = _
  rw [landX_at, hp, add_comm, add_zc_coe, fl_coe, Int.floor_add_intCast, fptosi_zc (by omega) (by omega)]

theorem wordY {p : ℝ} (hp : x1 (ix4 b 1 y x) = (p : EReal)) (l : -64 ≤ p) (u : p ≤ 64) :
    (val_main_v19 (F := Ideal) x1 (ix3 b y x)).toInt = ⌊p⌋ + y.val := by
  have l1 : -64 ≤ ⌊p⌋ := Int.le_floor.mpr (by push_cast; linarith)
  have l2 : ⌊p⌋ ≤ 64 := Int.floor_le_iff.mpr (by push_cast; linarith)
  show (Ideal.fptosi 32 (fl (val_main_v15 (F := Ideal) x1 (ix3 b y x)))).toInt = _
  rw [landY_at, hp, add_comm, add_zc_coe, fl_coe, Int.floor_add_intCast, fptosi_zc (by omega) (by omega)]

/-- The words one past the floors. -/
theorem wordX1 {p : ℝ} (hp : x1 (ix4 b 0 y x) = (p : EReal)) (l : -64 ≤ p) (u : p ≤ 64) :
    (val_main_v21 (F := Ideal) x1 (ix3 b y x)).toInt = ⌊p⌋ + x.val + 1 := by
  have l1 : -64 ≤ ⌊p⌋ := Int.le_floor.mpr (by push_cast; linarith)
  have l2 : ⌊p⌋ ≤ 64 := Int.floor_le_iff.mpr (by push_cast; linarith)
  have h := wordX x1 b y x hp l u
  pointwise [val_main_v21, val_main_v20, val_main_c]
  rw [toInt_succ (by omega) (by omega), h]

theorem wordY1 {p : ℝ} (hp : x1 (ix4 b 1 y x) = (p : EReal)) (l : -64 ≤ p) (u : p ≤ 64) :
    (val_main_v23 (F := Ideal) x1 (ix3 b y x)).toInt = ⌊p⌋ + y.val + 1 := by
  have l1 : -64 ≤ ⌊p⌋ := Int.le_floor.mpr (by push_cast; linarith)
  have l2 : ⌊p⌋ ≤ 64 := Int.floor_le_iff.mpr (by push_cast; linarith)
  have h := wordY x1 b y x hp l u
  pointwise [val_main_v23, val_main_v22, val_main_c_0]
  rw [toInt_succ (by omega) (by omega), h]

theorem ofBits_one : Ideal.ofBits .f32 0x3F800000#32 = 1 := by
  rw [one_eq_zc]
  unfold zc
  simp [Ideal.ofBits, Ideal.ieee, -EReal.coe_mul]; norm_num

/-- A pixel's weight toward the column one past its floor, and toward its floor; then the rows'. -/
theorem weightX1 : val_main_v24 (F := Ideal) x1 (ix3 b y x)
    = x1 (ix4 b 0 y x) + zc x.val - fl (x1 (ix4 b 0 y x) + zc x.val) := by
  show val_main_v10 (F := Ideal) x1 (ix3 b y x) - fl (val_main_v10 (F := Ideal) x1 (ix3 b y x)) = _
  rw [landX_at, add_comm]

theorem weightX0 : val_main_v26 (F := Ideal) x1 (ix3 b y x)
    = 1 - (x1 (ix4 b 0 y x) + zc x.val - fl (x1 (ix4 b 0 y x) + zc x.val)) := by
  rw [← weightX1]
  pointwise [val_main_v26, val_main_v25, val_main_cst]
  first | done | rw [ofBits_one]

theorem weightY1 : val_main_v27 (F := Ideal) x1 (ix3 b y x)
    = x1 (ix4 b 1 y x) + zc y.val - fl (x1 (ix4 b 1 y x) + zc y.val) := by
  show val_main_v15 (F := Ideal) x1 (ix3 b y x) - fl (val_main_v15 (F := Ideal) x1 (ix3 b y x)) = _
  rw [landY_at, add_comm]

theorem weightY0 : val_main_v29 (F := Ideal) x1 (ix3 b y x)
    = 1 - (x1 (ix4 b 1 y x) + zc y.val - fl (x1 (ix4 b 1 y x) + zc y.val)) := by
  rw [← weightY1]
  pointwise [val_main_v29, val_main_v28, val_main_cst_1]
  first | done | rw [ofBits_one]

/-- Two exclusive choices of row weight and two of column weight: at most one of the four products is taken, and it is
    the product of the weights chosen. -/
theorem four_choices (a u0 u1 w0 w1 : EReal) (A B C D : Prop) [Decidable A] [Decidable B] [Decidable C] [Decidable D]
    (ey : ¬(A ∧ B)) (ex : ¬(C ∧ D)) :
    (if A ∧ C then a * (u0 * w0) else 0) + (if A ∧ D then a * (u1 * w0) else 0)
        + (if B ∧ C then a * (u0 * w1) else 0) + (if B ∧ D then a * (u1 * w1) else 0)
      = a * ((if A then w0 else 0) + (if B then w1 else 0)) * ((if C then u0 else 0) + (if D then u1 else 0)) := by
  have m : ∀ u w : EReal, a * (u * w) = a * w * u := fun u w => by rw [mul_assoc, mul_comm u]
  simp only [m]
  by_cases h1 : A <;> by_cases h2 : B <;> by_cases h3 : C <;> by_cases h4 : D <;>
    first
    | (refine absurd ?_ ey; constructor <;> assumption)
    | (refine absurd ?_ ex; constructor <;> assumption)
    | simp only [h1, h2, h3, h4, true_and, false_and, and_self, if_true, if_false, add_zero, zero_add, mul_zero, zero_mul]

/-- A pixel's four contributions to the target `(y', x')` of batch `b'`. -/
theorem pixel_total (a : EReal) (b' : Fin 4) (y' : Fin 512) (x' : Fin 960)
    (smallX : max (x1 (ix4 b 0 y x)) (-(x1 (ix4 b 0 y x))) ≤ zc 64) (smallY : max (x1 (ix4 b 1 y x)) (-(x1 (ix4 b 1 y x))) ≤ zc 64) :
    (if b = b' ∧ (val_main_v19 (F := Ideal) x1 (ix3 b y x)).toInt = y'.val ∧ (val_main_v18 (F := Ideal) x1 (ix3 b y x)).toInt = x'.val
        then a * val_main_v37 (F := Ideal) x1 (ix3 b y x) else 0)
      + (if b = b' ∧ (val_main_v19 (F := Ideal) x1 (ix3 b y x)).toInt = y'.val ∧ (val_main_v21 (F := Ideal) x1 (ix3 b y x)).toInt = x'.val
        then a * val_main_v38 (F := Ideal) x1 (ix3 b y x) else 0)
      + (if b = b' ∧ (val_main_v23 (F := Ideal) x1 (ix3 b y x)).toInt = y'.val ∧ (val_main_v18 (F := Ideal) x1 (ix3 b y x)).toInt = x'.val
        then a * val_main_v39 (F := Ideal) x1 (ix3 b y x) else 0)
      + (if b = b' ∧ (val_main_v23 (F := Ideal) x1 (ix3 b y x)).toInt = y'.val ∧ (val_main_v21 (F := Ideal) x1 (ix3 b y x)).toInt = x'.val
        then a * val_main_v40 (F := Ideal) x1 (ix3 b y x) else 0)
      = if b = b' then a * hat (x1 (ix4 b 1 y x) + zc y.val) (zc y'.val) * hat (x1 (ix4 b 0 y x) + zc x.val) (zc x'.val) else 0 := by
  by_cases hb : b = b'
  · obtain ⟨p, hp, p1, p2⟩ := real_of_abs_le smallX
    obtain ⟨r, hr, r1, r2⟩ := real_of_abs_le smallY
    rw [if_pos hb, wordX x1 b y x hp p1 p2, wordX1 x1 b y x hp p1 p2, wordY x1 b y x hr r1 r2, wordY1 x1 b y x hr r1 r2]
    have m37 : val_main_v37 (F := Ideal) x1 (ix3 b y x) = val_main_v26 (F := Ideal) x1 (ix3 b y x) * val_main_v29 (F := Ideal) x1 (ix3 b y x) := rfl
    have m38 : val_main_v38 (F := Ideal) x1 (ix3 b y x) = val_main_v24 (F := Ideal) x1 (ix3 b y x) * val_main_v29 (F := Ideal) x1 (ix3 b y x) := rfl
    have m39 : val_main_v39 (F := Ideal) x1 (ix3 b y x) = val_main_v26 (F := Ideal) x1 (ix3 b y x) * val_main_v27 (F := Ideal) x1 (ix3 b y x) := rfl
    have m40 : val_main_v40 (F := Ideal) x1 (ix3 b y x) = val_main_v24 (F := Ideal) x1 (ix3 b y x) * val_main_v27 (F := Ideal) x1 (ix3 b y x) := rfl
    rw [m37, m38, m39, m40]
    simp only [hb, true_and]
    rw [← hb, four_choices _ _ _ _ _ _ _ _ _ (by omega) (by omega), weightX0, weightX1, weightY0, weightY1]
    have fx : fl (x1 (ix4 b 0 y x) + zc x.val) = zc (⌊p⌋ + x.val) := by rw [hp, add_zc_coe, fl_coe, Int.floor_add_intCast]
    have fy : fl (x1 (ix4 b 1 y x) + zc y.val) = zc (⌊r⌋ + y.val) := by rw [hr, add_zc_coe, fl_coe, Int.floor_add_intCast]
    unfold hat
    rw [fx, fy, one_eq_zc, zc_add, zc_add]
    simp only [zc_inj]
  · simp only [hb, false_and, if_false, add_zero]

end Cert.Splat

end
-- ==== Proof.Scatter.lean ====
/-
  An accumulating scatter of rows into a matrix, read at an entry: what the entry held plus the entry's column of every
  row whose index word, read signed, names the entry's row.
-/
module

public import Idealize.ShloMosaic.Lib.Routing.OpsPair
public import Idealize.ShloMosaic.Lib.Pointwise
public import Idealize.ShloMosaic.PureOps.Ideal

@[expose] public section

noncomputable section

namespace Cert.Splat

open Idealize.ShloMosaic

variable {N M C : ℕ} (d : ScatterDims (⟨2, ![N, C]⟩ : Shape) (⟨2, ![M, 1]⟩ : Shape) (⟨2, ![M, C]⟩ : Shape))

/-- Row `n`'s entry in column `k` lands at `(r, c)` exactly when its index word is `r` and `k` is `c`. -/
theorem row_lands (hu : d.updateWindowDims = [1]) (hi : d.insertedWindowDims = [0]) (hs : d.scatterDimsToOperandDims = [0])
    (hv : d.indexVectorDim = 1) (idx : IVec (⟨2, ![M, 1]⟩ : Shape) 32) (n : Fin M) (k : Fin C) (r : Fin N) (c : Fin C) :
    d.resultIdx? (ix2 n k) idx = some (ix2 r c) ↔ (idx (ix2 n 0)).toInt = (r.val : ℤ) ∧ k = c := by
  have hm : (0 : Fin 2) ∈ d.scatterDimsToOperandDims := by rw [hs]; exact List.mem_singleton.2 rfl
  have hkept : d.sKept = [1] := by
    show (⟨2, ![N, C]⟩ : Shape).kept d.insertedWindowDims = _
    rw [hi]; rfl
  have huk : d.uScatter = [0] := by
    show (⟨2, ![M, C]⟩ : Shape).kept d.updateWindowDims = _
    rw [hu]; rfl
  have w0 : d.window (ix2 n k) 0 = 0 := by
    unfold ScatterDims.window
    rw [dif_neg fun h => by rw [hkept] at h; exact absurd (List.mem_singleton.1 h) (by simp)]
  have w1 : d.window (ix2 n k) 1 = k.val := by
    unfold ScatterDims.window
    rw [dif_pos (by rw [hkept]; exact List.mem_singleton.2 rfl)]
    have q : ∀ (a : Fin 2), a = 1 → ((ix2 n k : (⟨2, ![M, C]⟩ : Shape).Idx) a).val = k.val := fun a ha => by subst ha; rfl
    apply q
    have : ∀ (l : List (Fin 2)) (h : l = [1]) (i : ℕ) (hi : i < l.length), l[i] = 1 := fun l h i hi => by
      subst h
      have : i = 0 := by simpa using hi
      subst this; rfl
    exact this _ hu _ _
  have s1 : d.start (ix2 n k) idx 1 = 0 := by
    unfold ScatterDims.start
    rw [dif_neg fun h => by rw [hs] at h; exact absurd (List.mem_singleton.1 h) (by simp)]
  have s0 : d.start (ix2 n k) idx 0 = (idx (ix2 n 0)).toInt := by
    unfold ScatterDims.start
    rw [dif_pos hm]
    congr 2
    funext b
    match b with
    | ⟨0, hb⟩ =>
      apply Fin.ext
      unfold ScatterDims.siIdx
      rw [dif_neg (by rw [hv]; exact zero_ne_one)]
      unfold ScatterDims.siCoord
      have q : ∀ (a : Fin 2), a = 0 → ((ix2 n k : (⟨2, ![M, C]⟩ : Shape).Idx) a).val = n.val := fun a ha => by subst ha; rfl
      apply q
      have : ∀ (l : List (Fin 2)) (h : l = [0]) (i : ℕ) (hi : i < l.length), l[i] = 0 := fun l h i hi => by
        subst h
        have : i = 0 := by simpa using hi
        subst this; rfl
      exact this _ huk _ _
    | ⟨1, _⟩ => exact Subsingleton.elim (α := Fin 1) _ _
  rw [Routing.resultIdx?_eq_some]
  constructor
  · intro h
    have h0 := h 0
    have h1 := h 1
    rw [w0, s0] at h0
    rw [w1, s1] at h1
    have e0 : (idx (ix2 n 0)).toInt + ((0 : ℕ) : ℤ) = (r.val : ℤ) := h0
    have e1 : 0 + (k.val : ℤ) = (c.val : ℤ) := h1
    exact ⟨by omega, Fin.ext (by omega)⟩
  · rintro ⟨h0, rfl⟩ a
    match a with
    | ⟨0, _⟩ =>
      show d.start (ix2 n k) idx 0 + (d.window (ix2 n k) 0 : ℤ) = (r.val : ℤ)
      rw [w0, s0, h0]; simp
    | ⟨1, _⟩ =>
      show d.start (ix2 n k) idx 1 + (d.window (ix2 n k) 1 : ℤ) = (k.val : ℤ)
      rw [w1, s1]; simp

/-- The scatter read at an entry. -/
theorem scatter_rows_at (hu : d.updateWindowDims = [1]) (hi : d.insertedWindowDims = [0]) (hs : d.scatterDimsToOperandDims = [0])
    (hv : d.indexVectorDim = 1) (A : (⟨2, ![N, C]⟩ : Shape).Idx → EReal) (idx : IVec (⟨2, ![M, 1]⟩ : Shape) 32)
    (upd : (⟨2, ![M, C]⟩ : Shape).Idx → EReal) (r : Fin N) (c : Fin C) :
    Ideal.hostScatterAdd d A idx upd (ix2 r c)
      = A (ix2 r c) + ∑ n : Fin M, if (idx (ix2 n 0)).toInt = (r.val : ℤ) then upd (ix2 n c) else 0 := by
  unfold Ideal.hostScatterAdd
  congr 1
  rw [Finset.sum_filter, sum_idx2]
  refine Finset.sum_congr rfl fun n _ => ?_
  rw [Finset.sum_eq_single c]
  · by_cases h : (idx (ix2 n 0)).toInt = (r.val : ℤ)
    · rw [if_pos h, if_pos ((row_lands d hu hi hs hv idx n c r c).2 ⟨h, rfl⟩)]
    · rw [if_neg h, if_neg fun q => h ((row_lands d hu hi hs hv idx n c r c).1 q).1]
  · intro k _ hk
    exact if_neg fun q => hk ((row_lands d hu hi hs hv idx n k r c).1 q).2
  · intro h; exact absurd (Finset.mem_univ _) h

/-- The host's scatter of rows read at an entry. -/
theorem host_scatter_rows_at (hu : d.updateWindowDims = [1]) (hi : d.insertedWindowDims = [0]) (hs : d.scatterDimsToOperandDims = [0])
    (hv : d.indexVectorDim = 1) (A : Vec Ideal (⟨2, ![N, C]⟩ : Shape) .f32) (idx : IVec (⟨2, ![M, 1]⟩ : Shape) 32)
    (upd : Vec Ideal (⟨2, ![M, C]⟩ : Shape) .f32) (r : Fin N) (c : Fin C) :
    Host.scatterAdd (F := Ideal) (φ := .f32) d A idx upd (ix2 r c)
      = A (ix2 r c) + ∑ n : Fin M, if (idx (ix2 n 0)).toInt = (r.val : ℤ) then upd (ix2 n c) else 0 :=
  scatter_rows_at d hu hi hs hv A idx upd r c

end Cert.Splat

end
-- ==== Proof.Reference.lean ====
/-
  What the reference computes: its four scatters leave in every row of the flattened image the whole image's sum for
  that pixel, and its result is the splatted image of its arguments.
-/
module

public import proofs.«01_k».proof.Proof.Pixel
public import proofs.«01_k».proof.Proof.Scatter

@[expose] public section

noncomputable section

namespace Cert.Splat

open Idealize.ShloMosaic Cert.ReferenceIdeal Cert.ReferenceIdeal.Gen Cert.ReferenceIdeal.Read

/-- Every row of the flattened image is one pixel's. -/
theorem flat_bijective : Function.Bijective (fun k : Fin 4 × Fin 512 × Fin 960 => flat k.1 k.2.1 k.2.2) := by
  constructor
  · rintro ⟨b, y, x⟩ ⟨b', y', x'⟩ h
    have h : (b.val * 512 + y.val) * 960 + x.val = (b'.val * 512 + y'.val) * 960 + x'.val := congrArg Fin.val h
    have e1 : b = b' := Fin.ext (by omega)
    have e2 : y = y' := Fin.ext (by omega)
    have e3 : x = x' := Fin.ext (by omega)
    rw [e1, e2, e3]
  · intro n
    refine ⟨(⟨n.val / 491520, by omega⟩, ⟨n.val / 960 % 512, by omega⟩, ⟨n.val % 960, by omega⟩), Fin.ext ?_⟩
    show (n.val / 491520 * 512 + n.val / 960 % 512) * 960 + n.val % 960 = n.val
    omega

/-- A sum over the rows is the sum over batches, image rows and columns. -/
theorem sum_flat (F : Fin 1966080 → EReal) :
    ∑ n, F n = ∑ b : Fin 4, ∑ y : Fin 512, ∑ x : Fin 960, F (flat b y x) := by
  rw [← Function.Bijective.sum_comp flat_bijective F, Fintype.sum_prod_type]
  simp only [Fintype.sum_prod_type]

variable (x0 : Vec Ideal S4x16x512x960 .f32) (x1 : Vec Ideal S4x2x512x960 .f32) (x2 : Vec Ideal S4x1x512x960 .f32)
  (b : Fin 4) (y : Fin 512) (x : Fin 960)

/-- A pixel's amount for channel `c`. -/
def amountAt (c : Fin 17) (b : Fin 4) (y : Fin 512) (x : Fin 960) : EReal :=
  amount (if h : c.val < 16 then x0 (ix4 b ⟨c.val, h⟩ y x) else 0) (x2 (ix4 b 0 y x)) c.val

/-- The first scatter at a row. -/
theorem scatter1_at (n : Fin 1966080) (c : Fin 17) :
    val_main_v71 (F := Ideal) x0 x1 x2 (ix2 n c)
      = val_main_v36 (F := Ideal) (ix2 n c)
        + ∑ k : Fin 1966080, if (val_main_v70 (F := Ideal) x1 (ix2 k 0)).toInt = (n.val : ℤ)
            then val_main_v64 (F := Ideal) x0 x1 x2 (ix2 k c) else 0 := by
  unfold val_main_v71
  rw [host_scatter_rows_at scatter_S1966080x17_S1966080x1_S1966080x17_1_0_0_1 rfl rfl rfl rfl]

/-- The second scatter at a row. -/
theorem scatter2_at (n : Fin 1966080) (c : Fin 17) :
    val_main_v102 (F := Ideal) x0 x1 x2 (ix2 n c)
      = val_main_v71 (F := Ideal) x0 x1 x2 (ix2 n c)
        + ∑ k : Fin 1966080, if (val_main_v101 (F := Ideal) x1 (ix2 k 0)).toInt = (n.val : ℤ)
            then val_main_v95 (F := Ideal) x0 x1 x2 (ix2 k c) else 0 := by
  unfold val_main_v102
  rw [host_scatter_rows_at scatter_S1966080x17_S1966080x1_S1966080x17_1_0_0_1 rfl rfl rfl rfl]

/-- The third scatter at a row. -/
theorem scatter3_at (n : Fin 1966080) (c : Fin 17) :
    val_main_v133 (F := Ideal) x0 x1 x2 (ix2 n c)
      = val_main_v102 (F := Ideal) x0 x1 x2 (ix2 n c)
        + ∑ k : Fin 1966080, if (val_main_v132 (F := Ideal) x1 (ix2 k 0)).toInt = (n.val : ℤ)
            then val_main_v126 (F := Ideal) x0 x1 x2 (ix2 k c) else 0 := by
  unfold val_main_v133
  rw [host_scatter_rows_at scatter_S1966080x17_S1966080x1_S1966080x17_1_0_0_1 rfl rfl rfl rfl]

/-- The fourth scatter at a row. -/
theorem scatter4_at (n : Fin 1966080) (c : Fin 17) :
    val_main_v164 (F := Ideal) x0 x1 x2 (ix2 n c)
      = val_main_v133 (F := Ideal) x0 x1 x2 (ix2 n c)
        + ∑ k : Fin 1966080, if (val_main_v163 (F := Ideal) x1 (ix2 k 0)).toInt = (n.val : ℤ)
            then val_main_v157 (F := Ideal) x0 x1 x2 (ix2 k c) else 0 := by
  unfold val_main_v164
  rw [host_scatter_rows_at scatter_S1966080x17_S1966080x1_S1966080x17_1_0_0_1 rfl rfl rfl rfl]

/-- The four scatters' result at a row: nothing, then each corner's sum over every pixel. -/
theorem scattered_at (c : Fin 17) :
    val_main_v164 (F := Ideal) x0 x1 x2 (ix2 (flat b y x) c)
      = (∑ b' : Fin 4, ∑ sy : Fin 512, ∑ sx : Fin 960,
          if b' = b ∧ (val_main_v19 (F := Ideal) x1 (ix3 b' sy sx)).toInt = y.val ∧ (val_main_v18 (F := Ideal) x1 (ix3 b' sy sx)).toInt = x.val
            then amountAt x0 x2 c b' sy sx * val_main_v37 (F := Ideal) x1 (ix3 b' sy sx) else 0)
        + (∑ b' : Fin 4, ∑ sy : Fin 512, ∑ sx : Fin 960,
          if b' = b ∧ (val_main_v19 (F := Ideal) x1 (ix3 b' sy sx)).toInt = y.val ∧ (val_main_v21 (F := Ideal) x1 (ix3 b' sy sx)).toInt = x.val
            then amountAt x0 x2 c b' sy sx * val_main_v38 (F := Ideal) x1 (ix3 b' sy sx) else 0)
        + (∑ b' : Fin 4, ∑ sy : Fin 512, ∑ sx : Fin 960,
          if b' = b ∧ (val_main_v23 (F := Ideal) x1 (ix3 b' sy sx)).toInt = y.val ∧ (val_main_v18 (F := Ideal) x1 (ix3 b' sy sx)).toInt = x.val
            then amountAt x0 x2 c b' sy sx * val_main_v39 (F := Ideal) x1 (ix3 b' sy sx) else 0)
        + (∑ b' : Fin 4, ∑ sy : Fin 512, ∑ sx : Fin 960,
          if b' = b ∧ (val_main_v23 (F := Ideal) x1 (ix3 b' sy sx)).toInt = y.val ∧ (val_main_v21 (F := Ideal) x1 (ix3 b' sy sx)).toInt = x.val
            then amountAt x0 x2 c b' sy sx * val_main_v40 (F := Ideal) x1 (ix3 b' sy sx) else 0) := by
  have zero : val_main_v36 (F := Ideal) (ix2 (flat b y x) c) = 0 := by
    pointwise [val_main_v36, val_main_cst_3]
    first | done | simp [Ideal.ofBits, Ideal.ieee]
  rw [scatter4_at, scatter3_at, scatter2_at, scatter1_at, zero, zero_add, sum_flat, sum_flat, sum_flat, sum_flat]
  simp only [corner1_rows, corner1_word, corner2_rows, corner2_word, corner3_rows, corner3_word, corner4_rows, corner4_word,
    amount_at, corner_term, amountAt]

/-- With every flow at most 64, a row holds the whole image's sum for its pixel. -/
theorem scattered_splat (small : ∀ i, max (x1 i) (-(x1 i)) ≤ zc 64) (c : Fin 17) :
    val_main_v164 (F := Ideal) x0 x1 x2 (ix2 (flat b y x) c)
      = splat (fun sy sx => if h : c.val < 16 then x0 (ix4 b ⟨c.val, h⟩ sy sx) else 0)
          (fun sy sx => x1 (ix4 b 0 sy sx)) (fun sy sx => x1 (ix4 b 1 sy sx)) (fun sy sx => x2 (ix4 b 0 sy sx)) c.val y x := by
  rw [scattered_at]
  simp only [← Finset.sum_add_distrib]
  simp only [fun (b' : Fin 4) (sy : Fin 512) (sx : Fin 960) =>
    pixel_total x1 b' sy sx (amountAt x0 x2 c b' sy sx) b y x (small _) (small _)]
  rw [Finset.sum_eq_single b]
  · simp only [if_true]
    rfl
  · intro b' _ hb
    simp only [hb, if_false, Finset.sum_const_zero]
  · intro h; exact absurd (Finset.mem_univ _) h

/-- The scattered rows as an image with seventeen channels. -/
theorem channels_at (c : Fin 17) :
    val_main_v166 (F := Ideal) x0 x1 x2 (ix4 b c y x) = val_main_v164 (F := Ideal) x0 x1 x2 (ix2 (flat b y x) c) := by
  have hn : ∀ h, (⟨b.val * 491520 + y.val * 960 + x.val, h⟩ : Fin 1966080) = flat b y x := fun h =>
    Fin.ext (by show b.val * 491520 + y.val * 960 + x.val = (b.val * 512 + y.val) * 960 + x.val; omega)
  pointwise [val_main_v166, val_main_v165]
  rw [hn]

/-- The result is the channel over the weight channel with the smallest denominator added. -/
theorem divided_at (q : Fin 16) :
    val_main_v172 (F := Ideal) x0 x1 x2 (ix4 b q y x)
      = Ideal.div (val_main_v166 (F := Ideal) x0 x1 x2 (ix4 b ⟨q.val, by omega⟩ y x))
          (val_main_v166 (F := Ideal) x0 x1 x2 (ix4 b 16 y x) + eps) := by
  have i1 : idx_main_v170 (ix4 b q y x) = ix4 b ⟨q.val, by omega⟩ y x := by
    funext a
    match a with
    | ⟨0, _⟩ => rfl
    | ⟨1, _⟩ => rfl
    | ⟨2, _⟩ => rfl
    | ⟨3, _⟩ => rfl
  have i2 : idx_main_v167 (idx_main_v171 (ix4 b q y x)) = ix4 b 16 y x := by
    funext a
    match a with
    | ⟨0, _⟩ => rfl
    | ⟨1, _⟩ => rfl
    | ⟨2, _⟩ => rfl
    | ⟨3, _⟩ => rfl
  rw [val_main_v172_apply, val_main_v170_apply, val_main_v171_apply, val_main_v169_apply, val_main_v167_apply,
    val_main_v168_apply, val_main_cst_52_apply, i1, i2]
  generalize val_main_v166 (F := Ideal) x0 x1 x2 = A
  rfl

/-- The reference's result, element by element. -/
theorem reference_at (small : ∀ i, max (x1 i) (-(x1 i)) ≤ zc 64) (q : Fin 16) :
    val_main_v172 (F := Ideal) x0 x1 x2 (ix4 b q y x)
      = image (fun q sy sx => x0 (ix4 b q sy sx)) (fun sy sx => x1 (ix4 b 0 sy sx)) (fun sy sx => x1 (ix4 b 1 sy sx))
          (fun sy sx => x2 (ix4 b 0 sy sx)) q y x := by
  have e1 : (fun (sy : Fin 512) (sx : Fin 960) => if h : q.val < 16 then x0 (ix4 b ⟨q.val, h⟩ sy sx) else 0)
      = fun sy sx => x0 (ix4 b q sy sx) := by
    funext sy sx; rw [dif_pos q.isLt]
  have e2 : (fun (sy : Fin 512) (sx : Fin 960) => if h : (16 : Fin 17).val < 16 then x0 (ix4 b ⟨(16 : Fin 17).val, h⟩ sy sx) else 0)
      = fun _ _ => 0 := by
    funext sy sx; rw [dif_neg (by decide)]
  rw [divided_at, channels_at, channels_at, scattered_splat x0 x1 x2 b y x small, scattered_splat x0 x1 x2 b y x small, e2]
  unfold image
  exact congrArg (fun v => Ideal.div (splat v _ _ _ _ _ _) _) e1

end Cert.Splat

end
-- ==== Proof.Equation.lean ====
/-
  The two programs' results beside each other: each device's image is its block of the reference's.
-/
module

public import proofs.«01_k».proof.Defs
public import proofs.«01_k».proof.Proof.Whole
public import proofs.«01_k».proof.Proof.Reference
public import Idealize.ShloMosaic.Lib.LayoutAt

@[expose] public section

noncomputable section

namespace Cert.Splat

open Idealize.ShloMosaic

/-- The one shape relation the precondition states over a device's arrays. -/
theorem window_facts : Cert.Pre_within_window_KernelIdeal.Facts where
  bcast_S_S2x2x512x960 := by decide

/-- The one shape relation the precondition states over the reference's arrays. -/
theorem window_facts_whole : Cert.Pre_within_window_ReferenceIdeal.Facts where
  bcast_S_S4x2x512x960 := by decide

/-- Where the precondition's test answers one everywhere, every flow's absolute value is at most 64. -/
theorem small_of_window [Cert.Pre_within_window_KernelIdeal.Facts] (X : FVec Ideal ⟨4, ![2, 16, 512, 960]⟩ .f32)
    (Fl : FVec Ideal ⟨4, ![2, 2, 512, 960]⟩ .f32) (Me : FVec Ideal ⟨4, ![2, 1, 512, 960]⟩ .f32)
    (h : Cert.Pre_within_window_KernelIdeal.fn X Fl Me = fun _ => 1#1) (i : (⟨4, ![2, 2, 512, 960]⟩ : Shape).Idx) :
    max (Fl i) (-(Fl i)) ≤ zc 64 := by
  have h1 : BitVec.ofBool (decide (max (Fl i) (-(Fl i)) ≤ Ideal.ofBits .f32 0x42800000#32)) = 1#1 := congrFun h i
  rw [ofBits_sixtyFour] at h1
  by_contra hn
  rw [decide_eq_false hn] at h1
  exact absurd h1 (by decide)

/-- The same of a flow that is a device's block of the whole flow, said of the block. -/
theorem block_small [Cert.Pre_within_window_KernelIdeal.Facts] (X : FVec Ideal ⟨4, ![2, 16, 512, 960]⟩ .f32)
    (Fl : FVec Ideal ⟨4, ![2, 2, 512, 960]⟩ .f32) (Me : FVec Ideal ⟨4, ![2, 1, 512, 960]⟩ .f32)
    (h : Cert.Pre_within_window_KernelIdeal.fn X Fl Me = fun _ => 1#1) (c : Fin 2)
    (F1 : FVec Ideal ⟨4, ![4, 2, 512, 960]⟩ .f32)
    (e : Fl = Layout.block ⟨4, ![2, 2, 512, 960]⟩ ⟨4, ![4, 2, 512, 960]⟩ 0 2 c F1 (by decide))
    (i : (⟨4, ![2, 2, 512, 960]⟩ : Shape).Idx) :
    max (Layout.block ⟨4, ![2, 2, 512, 960]⟩ ⟨4, ![4, 2, 512, 960]⟩ 0 2 c F1 (by decide) i)
      (-(Layout.block ⟨4, ![2, 2, 512, 960]⟩ ⟨4, ![4, 2, 512, 960]⟩ 0 2 c F1 (by decide) i)) ≤ zc 64 := by
  have w := small_of_window X Fl Me h i
  rw [e] at w
  exact w

/-- The batch item of the whole array that is item `b` of device `c`. -/
def item (c b : Fin 2) : Fin 4 := ⟨2 * c.val + b.val, by omega⟩

/-- A device's block of an array, element by element. -/
theorem device_block_at {α : Type} {n : ℕ} (c : Fin 2) (v : (⟨4, ![4, n, 512, 960]⟩ : Shape).Idx → α)
    (h : Layout.Tiles ⟨4, ![2, n, 512, 960]⟩ ⟨4, ![4, n, 512, 960]⟩ 0 2) (b : Fin 2) (q : Fin n) (y : Fin 512) (x : Fin 960) :
    Layout.block ⟨4, ![2, n, 512, 960]⟩ ⟨4, ![4, n, 512, 960]⟩ 0 2 c v h (ix4 b q y x) = v (ix4 (item c b) q y x) := by
  rw [Layout.block_apply]
  refine congrArg v (funext fun a => ?_)
  match a with
  | ⟨0, _⟩ => exact Fin.ext (by show c.val * 2 + b.val = 2 * c.val + b.val; omega)
  | ⟨1, _⟩ => rfl
  | ⟨2, _⟩ => rfl
  | ⟨3, _⟩ => rfl

/-- Every item of the whole array is one device's. -/
theorem item_cover (b : Fin 4) : ∃ c b', item c b' = b :=
  ⟨⟨b.val / 2, by omega⟩, ⟨b.val % 2, by omega⟩, Fin.ext (by show 2 * (b.val / 2) + b.val % 2 = b.val; omega)⟩

/-- Both devices' flows of at most 64: the whole flow is. -/
theorem small_whole (F1 : FVec Ideal ⟨4, ![4, 2, 512, 960]⟩ .f32)
    (h : ∀ (c : Fin 2) i, max (Layout.block ⟨4, ![2, 2, 512, 960]⟩ ⟨4, ![4, 2, 512, 960]⟩ 0 2 c F1 (by decide) i)
      (-(Layout.block ⟨4, ![2, 2, 512, 960]⟩ ⟨4, ![4, 2, 512, 960]⟩ 0 2 c F1 (by decide) i)) ≤ zc 64)
    (i : (⟨4, ![4, 2, 512, 960]⟩ : Shape).Idx) : max (F1 i) (-(F1 i)) ≤ zc 64 := by
  have key : ∀ (b : Fin 4) (d : Fin 2) (y : Fin 512) (x : Fin 960),
      max (F1 (ix4 b d y x)) (-(F1 (ix4 b d y x))) ≤ zc 64 := by
    intro b d y x
    obtain ⟨c, b', e⟩ := item_cover b
    have k := h c (ix4 b' d y x)
    rw [device_block_at, e] at k
    exact k
  have hi : ix4 (i 0) (i 1) (i 2) (i 3) = i := by
    funext a
    match a with
    | ⟨0, _⟩ => rfl
    | ⟨1, _⟩ => rfl
    | ⟨2, _⟩ => rfl
    | ⟨3, _⟩ => rfl
  exact hi ▸ key (i 0) (i 1) (i 2) (i 3)

/-- A device's image of its blocks is its block of the reference's result. -/
theorem image_block (X : FVec Ideal ⟨4, ![4, 16, 512, 960]⟩ .f32) (F1 : FVec Ideal ⟨4, ![4, 2, 512, 960]⟩ .f32)
    (M1 : FVec Ideal ⟨4, ![4, 1, 512, 960]⟩ .f32) (small : ∀ i, max (F1 i) (-(F1 i)) ≤ zc 64) (c : Fin 2) :
    (fun i : (⟨4, ![2, 16, 512, 960]⟩ : Shape).Idx =>
      image (fun q sy sx => Layout.block ⟨4, ![2, 16, 512, 960]⟩ ⟨4, ![4, 16, 512, 960]⟩ 0 2 c X (by decide) (ix4 (i 0) q sy sx))
        (fun sy sx => Layout.block ⟨4, ![2, 2, 512, 960]⟩ ⟨4, ![4, 2, 512, 960]⟩ 0 2 c F1 (by decide) (ix4 (i 0) 0 sy sx))
        (fun sy sx => Layout.block ⟨4, ![2, 2, 512, 960]⟩ ⟨4, ![4, 2, 512, 960]⟩ 0 2 c F1 (by decide) (ix4 (i 0) 1 sy sx))
        (fun sy sx => Layout.block ⟨4, ![2, 1, 512, 960]⟩ ⟨4, ![4, 1, 512, 960]⟩ 0 2 c M1 (by decide) (ix4 (i 0) 0 sy sx))
        (i 1) (i 2) (i 3))
      = Layout.block ⟨4, ![2, 16, 512, 960]⟩ ⟨4, ![4, 16, 512, 960]⟩ 0 2 c
          (Cert.ReferenceIdeal.Read.val_main_v172 (F := Ideal) X F1 M1) (by decide) := by
  have key : ∀ (b : Fin 2) (q : Fin 16) (y : Fin 512) (x : Fin 960),
      image (fun q sy sx => Layout.block ⟨4, ![2, 16, 512, 960]⟩ ⟨4, ![4, 16, 512, 960]⟩ 0 2 c X (by decide) (ix4 b q sy sx))
        (fun sy sx => Layout.block ⟨4, ![2, 2, 512, 960]⟩ ⟨4, ![4, 2, 512, 960]⟩ 0 2 c F1 (by decide) (ix4 b 0 sy sx))
        (fun sy sx => Layout.block ⟨4, ![2, 2, 512, 960]⟩ ⟨4, ![4, 2, 512, 960]⟩ 0 2 c F1 (by decide) (ix4 b 1 sy sx))
        (fun sy sx => Layout.block ⟨4, ![2, 1, 512, 960]⟩ ⟨4, ![4, 1, 512, 960]⟩ 0 2 c M1 (by decide) (ix4 b 0 sy sx)) q y x
      = Layout.block ⟨4, ![2, 16, 512, 960]⟩ ⟨4, ![4, 16, 512, 960]⟩ 0 2 c
          (Cert.ReferenceIdeal.Read.val_main_v172 (F := Ideal) X F1 M1) (by decide) (ix4 b q y x) := by
    intro b q y x
    rw [device_block_at c _ _ b q y x, reference_at X F1 M1 (item c b) y x small q]
    simp only [device_block_at]
  funext i
  have hi : ix4 (i 0) (i 1) (i 2) (i 3) = i := by
    funext a
    match a with
    | ⟨0, _⟩ => rfl
    | ⟨1, _⟩ => rfl
    | ⟨2, _⟩ => rfl
    | ⟨3, _⟩ => rfl
  exact (key (i 0) (i 1) (i 2) (i 3)).trans (congrArg _ hi)

end Cert.Splat

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Equation

@[expose] public section

noncomputable section

namespace Cert.Proof

open Idealize.ShloMosaic Idealize.SL.Sem

/-- The kernel runs at the machine's words, keeps its arguments and ends with every counter at zero. -/
theorem frame_kernel : Cert.quiescent_Kernel := fun m ρ _ => Cert.Kernel.Gen.frame m ρ

/-- The same of the kernel read over the extended reals. -/
theorem frame_kernelIdeal : Cert.quiescent_KernelIdeal := fun m ρ _ => Cert.KernelIdeal.Gen.frame m ρ

/-- The same of the reference read over the extended reals: it has no semaphore at all. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Every flow at most 64: each device's result is its block of the reference's result. -/
theorem algebraic : Cert.algebraic_KernelIdeal_ReferenceIdeal_pre_within_window_KernelIdeal
    (hPre_within_window_KernelIdeal := Cert.Splat.window_facts) := by
  intro m g m' g' pre args
  have small := fun c : Fin 2 => @Cert.Splat.block_small Cert.Splat.window_facts _ _ _ (pre c) c _ (args c).2.1
  refine ⟨Cert.ReferenceIdeal.Read.val_main_v172 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨?_, (h c).2⟩)
      (Cert.KernelIdeal.Value.run_blocks (F := Ideal) m g)
    refine (h c).1.trans ?_
    refine (Cert.Splat.result_image _ _ _ m c (args c).1 (args c).2.1 (args c).2.2 (small c)).trans ?_
    exact Cert.Splat.image_block _ _ _ (Cert.Splat.small_whole _ small) c
  · refine (θ_run Cert.ReferenceIdeal.defs _ _).mono (fun r h => ⟨?_, (h 0).2⟩)
      (Cert.ReferenceIdeal.Value.run (F := Ideal) m' g')
    exact (h 0).1.trans (Cert.ReferenceIdeal.Read.val_main_v172_eq (StableHlo.launchContents m' 0))

/-- Everything the certificate claims. -/
theorem claim : Cert.Claim := ⟨Cert.Kernel.Gen.facts, Cert.KernelIdeal.Gen.facts, Cert.ReferenceIdeal.Gen.facts,
  Cert.Splat.window_facts, Cert.Splat.window_facts_whole,
  frame_kernel, frame_kernelIdeal, fun m ρ _ => frame_kernelIdeal m ρ trivial, frame_referenceIdeal,
  fun m ρ _ => frame_referenceIdeal m ρ trivial, trivial, algebraic⟩

end Cert.Proof

end
